-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_modulation [hPre_finite_modulation : Cert.Pre_finite_modulation.Facts] (m : (ℓ : Loc Cert.KernelIdeal.nD Cert.KernelIdeal.τ Cert.KernelIdeal.sig) → Buf (Elt Ideal) ℓ) : Prop :=
  ∀ c : Dev Cert.KernelIdeal.nD,
    (Cert.Pre_finite_modulation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_modulation [hPre_finite_modulation : Cert.Pre_finite_modulation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_modulation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_modulation [hKernelIdeal : Cert.KernelIdeal.Facts] [hPre_finite_modulation : Cert.Pre_finite_modulation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_modulation m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_modulation [hReferenceIdeal : Cert.ReferenceIdeal.Facts] [hPre_finite_modulation : Cert.Pre_finite_modulation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_modulation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_modulation [hKernelIdeal : Cert.KernelIdeal.Facts] [hReferenceIdeal : Cert.ReferenceIdeal.Facts] [hPre_finite_modulation : Cert.Pre_finite_modulation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_modulation m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_modulation : Cert.Pre_finite_modulation.Facts),
    quiescent_Kernel (hKernel := hKernel)
    ∧ quiescent_KernelIdeal (hKernelIdeal := hKernelIdeal)
    ∧ quiescent_KernelIdeal_pre_finite_modulation (hKernelIdeal := hKernelIdeal) (hPre_finite_modulation := hPre_finite_modulation)
    ∧ quiescent_ReferenceIdeal (hReferenceIdeal := hReferenceIdeal)
    ∧ quiescent_ReferenceIdeal_pre_finite_modulation (hReferenceIdeal := hReferenceIdeal) (hPre_finite_modulation := hPre_finite_modulation)
    ∧ preserves_Kernel_KernelIdeal
    ∧ algebraic_KernelIdeal_ReferenceIdeal_pre_finite_modulation (hKernelIdeal := hKernelIdeal) (hReferenceIdeal := hReferenceIdeal) (hPre_finite_modulation := hPre_finite_modulation)
-- ==== Pre_finite_modulation.lean ====
abbrev S2x128x7168 : Shape := ⟨3, ![2, 128, 7168]⟩
abbrev S2x7168 : Shape := ⟨2, ![2, 7168]⟩
abbrev S2x8960 : Shape := ⟨2, ![2, 8960]⟩
abbrev S7168x8960 : Shape := ⟨2, ![7168, 8960]⟩
abbrev S8960 : Shape := ⟨1, ![8960]⟩
abbrev S_ : Shape := ⟨0, ![]⟩

class Facts : Prop where
  bitsLt_bf16_f32 : FTy.bits .bf16 < FTy.bits .f32
  bcast_S_S2x7168 : S_.BroadcastsInDim S2x7168 (![] : Fin 0 → Fin S2x7168.rank)
  reducesTo_S2x7168_S_d0_1 : S2x7168.ReducesTo [0, 1] S_
  h_S_ : 0 < S_.numel

variable [Facts]

def fn {F : FTy → Type} [FloatOps F] (main_arg0 : FVec F S2x128x7168 .bf16) (main_arg1 : FVec F S2x7168 .bf16) (main_arg2 : FVec F S2x7168 .bf16) (main_arg3 : FVec F S2x8960 .bf16) (main_arg4 : FVec F S7168x8960 .fp8e4m3) (main_arg5 : FVec F S8960 .f32) (main_arg6 : FVec F S8960 .bf16) : IVec S_ 1 :=
  let main_v0 : FVec F S2x7168 .f32 := (extf .f32 · bitsLt_bf16_f32) main_arg1
  let main_v1 : FVec F S2x7168 .f32 := Host.absf main_v0
  let main_cst : FVec F S_ .f32 := constant S_ .f32 0x7F7F0000#32
  let main_v2 : FVec F S2x7168 .f32 := broadcastInDim S2x7168 ![] bcast_S_S2x7168 main_cst
  let main_v3 : IVec S2x7168 1 := cmpf .ole main_v1 main_v2
  let main_c : IVec S_ 1 := constantI S_ 1 1#1
  let main_v4 : IVec S_ 1 := (fun x v => Host.reduce IntOp.andi x v reducesTo_S2x7168_S_d0_1 h_S_) main_v3 main_c
  let main_v5 : FVec F S2x7168 .f32 := (extf .f32 · bitsLt_bf16_f32) main_arg2
  let main_v6 : FVec F S2x7168 .f32 := Host.absf main_v5
  let main_cst_0 : FVec F S_ .f32 := constant S_ .f32 0x7F7F0000#32
  let main_v7 : FVec F S2x7168 .f32 := broadcastInDim S2x7168 ![] bcast_S_S2x7168 main_cst_0
  let main_v8 : IVec S2x7168 1 := cmpf .ole main_v6 main_v7
  let main_c_1 : IVec S_ 1 := constantI S_ 1 1#1
  let main_v9 : IVec S_ 1 := (fun x v => Host.reduce IntOp.andi x v reducesTo_S2x7168_S_d0_1 h_S_) main_v8 main_c_1
  let main_v10 : IVec S_ 1 := andi main_v4 main_v9
  main_v10
-- ==== Kernel.lean ====
abbrev S2x128x7168 : Shape := ⟨3, ![2, 128, 7168]⟩
abbrev S2x7168 : Shape := ⟨2, ![2, 7168]⟩
abbrev S2x8960 : Shape := ⟨2, ![2, 8960]⟩
abbrev S7168x8960 : Shape := ⟨2, ![7168, 8960]⟩
abbrev S8960 : Shape := ⟨1, ![8960]⟩
abbrev S1x8960 : Shape := ⟨2, ![1, 8960]⟩
abbrev S2x128x8960 : Shape := ⟨3, ![2, 128, 8960]⟩
abbrev S2x128x1 : Shape := ⟨3, ![2, 128, 1]⟩
abbrev S2x1280 : Shape := ⟨2, ![2, 1280]⟩
abbrev S7168x1280 : Shape := ⟨2, ![7168, 1280]⟩
abbrev S1x1280 : Shape := ⟨2, ![1, 1280]⟩
abbrev S2x128x1280 : Shape := ⟨3, ![2, 128, 1280]⟩
abbrev S1x16x7168 : Shape := ⟨3, ![1, 16, 7168]⟩
abbrev S16x7168 : Shape := ⟨2, ![16, 7168]⟩
abbrev S16 : Shape := ⟨1, ![16]⟩
abbrev S16x1 : Shape := ⟨2, ![16, 1]⟩
abbrev S1x7168 : Shape := ⟨2, ![1, 7168]⟩
abbrev S16x256 : Shape := ⟨2, ![16, 256]⟩
abbrev S1x16x1 : Shape := ⟨3, ![1, 16, 1]⟩
abbrev S1x128x7168 : Shape := ⟨3, ![1, 128, 7168]⟩
abbrev S128x7168 : Shape := ⟨2, ![128, 7168]⟩
abbrev S128x1280 : Shape := ⟨2, ![128, 1280]⟩
abbrev S1x128x1 : Shape := ⟨3, ![1, 128, 1]⟩
abbrev S128x1 : Shape := ⟨2, ![128, 1]⟩
abbrev S1x128x1280 : Shape := ⟨3, ![1, 128, 1280]⟩

abbrev nBuf : Space → Nat
  | .hbm => 12
  | .vmem => 15
  | .smem => 0
  | _ => 0

abbrev bufTy : (tb : Table) → Fin (tcTables nBuf tb) → BufTy
  | .hbm, ⟨0, _⟩ => ⟨S2x128x7168, .bf16⟩
  | .hbm, ⟨1, _⟩ => ⟨S2x7168, .bf16⟩
  | .hbm, ⟨2, _⟩ => ⟨S2x7168, .bf16⟩
  | .hbm, ⟨3, _⟩ => ⟨S2x8960, .bf16⟩
  | .hbm, ⟨4, _⟩ => ⟨S7168x8960, .fp8e4m3⟩
  | .hbm, ⟨5, _⟩ => ⟨S8960, .f32⟩
  | .hbm, ⟨6, _⟩ => ⟨S8960, .bf16⟩
  | .hbm, ⟨7, _⟩ => ⟨S1x8960, .f32⟩
  | .hbm, ⟨8, _⟩ => ⟨S1x8960, .bf16⟩
  | .hbm, ⟨9, _⟩ => ⟨S2x128x8960, .bf16⟩
  | .hbm, ⟨10, _⟩ => ⟨S2x128x7168, .fp8e4m3⟩
  | .hbm, ⟨11, _⟩ => ⟨S2x128x1, .f32⟩
  | .local _ .vmem, ⟨0, _⟩ => ⟨S2x128x7168, .bf16⟩
  | .local _ .vmem, ⟨1, _⟩ => ⟨S2x7168, .bf16⟩
  | .local _ .vmem, ⟨2, _⟩ => ⟨S2x7168, .bf16⟩
  | .local _ .vmem, ⟨3, _⟩ => ⟨S2x1280, .bf16⟩
  | .local _ .vmem, ⟨4, _⟩ => ⟨S2x1280, .bf16⟩
  | .local _ .vmem, ⟨5, _⟩ => ⟨S7168x1280, .fp8e4m3⟩
  | .local _ .vmem, ⟨6, _⟩ => ⟨S7168x1280, .fp8e4m3⟩
  | .local _ .vmem, ⟨7, _⟩ => ⟨S1x1280, .f32⟩
  | .local _ .vmem, ⟨8, _⟩ => ⟨S1x1280, .f32⟩
  | .local _ .vmem, ⟨9, _⟩ => ⟨S1x1280, .bf16⟩
  | .local _ .vmem, ⟨10, _⟩ => ⟨S1x1280, .bf16⟩
  | .local _ .vmem, ⟨11, _⟩ => ⟨S2x128x1280, .bf16⟩
  | .local _ .vmem, ⟨12, _⟩ => ⟨S2x128x1280, .bf16⟩
  | .local _ .vmem, ⟨13, _⟩ => ⟨S2x128x7168, .fp8e4m3⟩
  | .local _ .vmem, ⟨14, _⟩ => ⟨S2x128x1, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7168x1280 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x128x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S2x128x7168 : Shape := ⟨3, ![2, 128, 7168]⟩
abbrev S2x7168 : Shape := ⟨2, ![2, 7168]⟩
abbrev S2x8960 : Shape := ⟨2, ![2, 8960]⟩
abbrev S7168x8960 : Shape := ⟨2, ![7168, 8960]⟩
abbrev S8960 : Shape := ⟨1, ![8960]⟩
abbrev S2x128x8960 : Shape := ⟨3, ![2, 128, 8960]⟩
abbrev S2x128x1 : Shape := ⟨3, ![2, 128, 1]⟩
abbrev S2x128 : Shape := ⟨2, ![2, 128]⟩
abbrev S2x1x7168 : Shape := ⟨3, ![2, 1, 7168]⟩
abbrev S1x1x8960 : Shape := ⟨3, ![1, 1, 8960]⟩
abbrev S2x1x8960 : Shape := ⟨3, ![2, 1, 8960]⟩

abbrev nBuf : Space → Nat
  | .hbm => 10
  | .vmem => 10
  | .smem => 0
  | _ => 0

abbrev bufTy : (tb : Table) → Fin (tcTables nBuf tb) → BufTy
  | .hbm, ⟨0, _⟩ => ⟨S2x128x7168, .bf16⟩
  | .hbm, ⟨1, _⟩ => ⟨S2x7168, .bf16⟩
  | .hbm, ⟨2, _⟩ => ⟨S2x7168, .bf16⟩
  | .hbm, ⟨3, _⟩ => ⟨S2x8960, .bf16⟩
  | .hbm, ⟨4, _⟩ => ⟨S7168x8960, .fp8e4m3⟩
  | .hbm, ⟨5, _⟩ => ⟨S8960, .f32⟩
  | .hbm, ⟨6, _⟩ => ⟨S8960, .bf16⟩
  | .hbm, ⟨7, _⟩ => ⟨S2x128x8960, .bf16⟩
  | .hbm, ⟨8, _⟩ => ⟨S2x128x7168, .fp8e4m3⟩
  | .hbm, ⟨9, _⟩ => ⟨S2x128x1, .f32⟩
  | .local _ .vmem, ⟨0, _⟩ => ⟨S2x128x7168, .bf16⟩
  | .local _ .vmem, ⟨1, _⟩ => ⟨S2x7168, .bf16⟩
  | .local _ .vmem, ⟨2, _⟩ => ⟨S2x7168, .bf16⟩
  | .local _ .vmem, ⟨3, _⟩ => ⟨S2x8960, .bf16⟩
  | .local _ .vmem, ⟨4, _⟩ => ⟨S7168x8960, .fp8e4m3⟩
  | .local _ .vmem, ⟨5, _⟩ => ⟨S8960, .f32⟩
  | .local _ .vmem, ⟨6, _⟩ => ⟨S8960, .bf16⟩
  | .local _ .vmem, ⟨7, _⟩ => ⟨S2x128x8960, .bf16⟩
  | .local _ .vmem, ⟨8, _⟩ => ⟨S2x128x7168, .fp8e4m3⟩
  | .local _ .vmem, ⟨9, _⟩ => ⟨S2x128x1, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8960 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x8960 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8960 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x8960 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Conditions.lean ====
/- The condition under which the kernel quantises, and the names of its staging buffers. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, e0]
    word_cmp
   : ∀ t : Fin grid0.N, cond0_0 (grid0.coords t) ↔ t.val % 7 = 0)

/-! ## The kernel body on any staging memrefs: a subtype the run finds -/

/-- One staging buffer of output window 7, through which its contents are stated (`View.read_writes_of_cover`: the
    choice does not matter). -/
abbrev VO0_7 : View sig .tc .vmem S2x128x1280 .bf16 := (Memref.whole cc0_stg7_0 : Memref sig .tc .vmem S2x128x1280 .bf16).view
/-- One staging buffer of output window 8, through which its contents are stated (`View.read_writes_of_cover`: the
    choice does not matter). -/
abbrev VO0_8 : View sig .tc .vmem S2x128x7168 .fp8e4m3 := (Memref.whole cc0_stg8_0 : Memref sig .tc .vmem S2x128x7168 .fp8e4m3).view
/-- One staging buffer of output window 9, through which its contents are stated (`View.read_writes_of_cover`: the
    choice does not matter). -/
abbrev VO0_9 : View sig .tc .vmem S2x128x1 .f32 := (Memref.whole cc0_stg9_0 : Memref sig .tc .vmem S2x128x1 .f32).view
/-- Each window's current staging memref at point `t`, spelled as the pipeline passes it (`bodyAt0`), and its wholeness. -/
abbrev ms0_0 (t : Fin cfg0.N) : Memref sig .tc .vmem S2x128x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x7168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x7168 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1280 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S7168x1280 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1280 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128x1280 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x128x7168 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x128x1 .f32 := win0_9.stage (cfg0.slots t 9)
abbrev hs0_9 (t : Fin cfg0.N) : (ms0_9 t).IsWhole := hstage0_9 ((cfg0.slots t 9).cast nbuf0_9)

end Cert.KernelIdeal.Hand

end
-- ==== Proof.RunA.lean ====
/- The body at the first grid point, where it quantises and then multiplies. -/
module

public import proofs.«01_k».proof.Proof.Conditions

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1232000 in
/-- The first grid point: the pieces the body stores into each of its three outputs (last store first), together
    with the proof that on whole staging buffers, the inputs' at given contents, the body runs, leaves the inputs as
    they were and leaves each output with its pieces written. -/
noncomputable def kernelRun0_A (c : Dev nD) (i : grid0.Coords) (arg1 : Memref sig .tc .vmem S2x128x7168 .bf16) (harg1 : arg1.IsWhole) (arg2 : Memref sig .tc .vmem S2x7168 .bf16) (harg2 : arg2.IsWhole) (arg3 : Memref sig .tc .vmem S2x7168 .bf16) (harg3 : arg3.IsWhole) (arg4 : Memref sig .tc .vmem S2x1280 .bf16) (harg4 : arg4.IsWhole) (arg5 : Memref sig .tc .vmem S7168x1280 .fp8e4m3) (harg5 : arg5.IsWhole) (arg6 : Memref sig .tc .vmem S1x1280 .f32) (harg6 : arg6.IsWhole) (arg7 : Memref sig .tc .vmem S1x1280 .bf16) (harg7 : arg7.IsWhole) (arg8 : Memref sig .tc .vmem S2x128x1280 .bf16) (harg8 : arg8.IsWhole) (arg9 : Memref sig .tc .vmem S2x128x7168 .fp8e4m3) (harg9 : arg9.IsWhole) (arg10 : Memref sig .tc .vmem S2x128x1 .f32) (harg10 : arg10.IsWhole) (hc0 : cond0_0 i)
    (x0 : Vec F S2x128x7168 .bf16) (x1 : Vec F S2x7168 .bf16) (x2 : Vec F S2x7168 .bf16) (x3 : Vec F S2x1280 .bf16) (x4 : Vec F S7168x1280 .fp8e4m3) (x5 : Vec F S1x1280 .f32) (x6 : Vec F S1x1280 .bf16) :
    Σ' (L7 : List (View.Piece (Elt F) S2x128x1280 .bf16)), Σ' (L8 : List (View.Piece (Elt F) S2x128x7168 .fp8e4m3)), { L9 : List (View.Piece (Elt F) S2x128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0_adaln_fp8_linear i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_adaln_fp8_linear_eq_skeleton]; unfold cc0_adaln_fp8_linear_skel
    simp only [k0_part31_eq_skeleton, k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

end Cert.KernelIdeal.Hand

end
-- ==== Proof.RunB.lean ====
/- The body at a later grid point, where it only multiplies. -/
module

public import proofs.«01_k».proof.Proof.Conditions

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Any later grid point: the pieces the body stores into its first output, together with the proof that on whole
    staging buffers, the inputs', the codes' and the scales' at given contents, the body runs, leaves all of those as
    they were and leaves the first output with its pieces written. -/
noncomputable def kernelRun0_B (c : Dev nD) (i : grid0.Coords) (arg1 : Memref sig .tc .vmem S2x128x7168 .bf16) (harg1 : arg1.IsWhole) (arg2 : Memref sig .tc .vmem S2x7168 .bf16) (harg2 : arg2.IsWhole) (arg3 : Memref sig .tc .vmem S2x7168 .bf16) (harg3 : arg3.IsWhole) (arg4 : Memref sig .tc .vmem S2x1280 .bf16) (harg4 : arg4.IsWhole) (arg5 : Memref sig .tc .vmem S7168x1280 .fp8e4m3) (harg5 : arg5.IsWhole) (arg6 : Memref sig .tc .vmem S1x1280 .f32) (harg6 : arg6.IsWhole) (arg7 : Memref sig .tc .vmem S1x1280 .bf16) (harg7 : arg7.IsWhole) (arg8 : Memref sig .tc .vmem S2x128x1280 .bf16) (harg8 : arg8.IsWhole) (arg9 : Memref sig .tc .vmem S2x128x7168 .fp8e4m3) (harg9 : arg9.IsWhole) (arg10 : Memref sig .tc .vmem S2x128x1 .f32) (harg10 : arg10.IsWhole) (hc0 : ¬cond0_0 i)
    (x0 : Vec F S2x128x7168 .bf16) (x1 : Vec F S2x7168 .bf16) (x2 : Vec F S2x7168 .bf16) (x3 : Vec F S2x1280 .bf16) (x4 : Vec F S7168x1280 .fp8e4m3) (x5 : Vec F S1x1280 .f32) (x6 : Vec F S1x1280 .bf16) (xo8 : Vec F S2x128x7168 .fp8e4m3) (xo9 : Vec F S2x128x1 .f32) :
    { L7 : List (View.Piece (Elt F) S2x128x1280 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xo8 ∗ owns (c : Thread nD τ) arg10 fullShare xo9) -∗ K ⟨⟩))
          ⊢ wp frame (wpE (defs₀ (F := F)) Variants.none c none) E (cc0_adaln_fp8_linear i arg1 harg1 arg2 harg2 arg3 harg3 arg4 harg4 arg5 harg5 arg6 harg6 arg7 harg7 arg8 harg8 arg9 harg9 arg10 harg10) K } := by
  refine ⟨?_, fun E K => ?run⟩
  case run =>
    simp only [cc0_adaln_fp8_linear_eq_skeleton]; unfold cc0_adaln_fp8_linear_skel
    simp only [k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; isplitr; · ipureintro; exact harg10.read_unread _
    iexact H9

end Cert.KernelIdeal.Hand

end
-- ==== Proof.Body.lean ====
/- What the staging buffers hold after each grid point, the body's triple at every point, and the whole run. -/
module

public import proofs.«01_k».proof.Proof.RunA
public import proofs.«01_k».proof.Proof.RunB
public import Idealize.ShloMosaic.Lib.Pipeline.TableIdle
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores at each point -/

/-- The body's run at the first point, on the point's staging buffers and input blocks. -/
abbrev runA (c : Dev nD) (t : Fin cfg0.N) (h0 : t.val % 7 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t)

/-- The body's run at a later point, the codes' and the scales' buffers at given contents. -/
abbrev runB (c : Dev nD) (t : Fin cfg0.N) (h0 : ¬t.val % 7 = 0) (xo8 : Vec F S2x128x7168 .fp8e4m3) (xo9 : Vec F S2x128x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) xo8 xo9

/-- At the first point the two stores into the first output cover its block, -/
theorem cover_A_7 (c : Dev nD) (t : Fin cfg0.N) (h0 : t.val % 7 = 0) (y : S2x128x1280.Idx) : ∃ pc ∈ (runA m c t h0).1, y ∈ pc.1.set :=
  View.cover_of_tiledL (runA m c t h0).1 S1x128x1280.size (by sl_kernel_rfl) y
/-- the sixteen groups of rows cover the codes, -/
theorem cover_A_8 (c : Dev nD) (t : Fin cfg0.N) (h0 : t.val % 7 = 0) (y : S2x128x7168.Idx) : ∃ pc ∈ (runA m c t h0).2.1, y ∈ pc.1.set :=
  View.cover_of_tiledL (runA m c t h0).2.1 S1x16x7168.size (by sl_kernel_rfl) y
/-- and the sixteen groups of rows cover the scales. -/
theorem cover_A_9 (c : Dev nD) (t : Fin cfg0.N) (h0 : t.val % 7 = 0) (y : S2x128x1.Idx) : ∃ pc ∈ (runA m c t h0).2.2.1, y ∈ pc.1.set :=
  View.cover_of_tiledL (runA m c t h0).2.2.1 S1x16x1.size (by sl_kernel_rfl) y
/-- At a later point the two stores into the first output cover its block. -/
theorem cover_B_7 (c : Dev nD) (t : Fin cfg0.N) (h0 : ¬t.val % 7 = 0) (xo8 : Vec F S2x128x7168 .fp8e4m3) (xo9 : Vec F S2x128x1 .f32)
    (y : S2x128x1280.Idx) : ∃ pc ∈ (runB m c t h0 xo8 xo9).1, y ∈ pc.1.set :=
  View.cover_of_tiledL (runB m c t h0 xo8 xo9).1 S1x128x1280.size (by sl_kernel_rfl) y

/-- The first grid point. -/
abbrev t₀ : Fin cfg0.N := ⟨0, lt_of_lt_of_eq (by decide) (show cfg0.N = 7 from N_0).symm⟩

/-- The codes the first point leaves, and every later point keeps. -/
def CODES (c : Dev nD) : Vec F S2x128x7168 .fp8e4m3 :=
  VO0_8.read (Elt F) (VO0_8.writes (Elt F) VO0_8.junk (runA m c t₀ rfl).2.1)

/-- The row scales the first point leaves, and every later point keeps. -/
def HS (c : Dev nD) : Vec F S2x128x1 .f32 :=
  VO0_9.read (Elt F) (VO0_9.writes (Elt F) VO0_9.junk (runA m c t₀ rfl).2.2.1)

/-- The block of the first output that point `t` leaves. -/
def Y (c : Dev nD) (t : Fin cfg0.N) : Vec F S2x128x1280 .bf16 :=
  if h0 : t.val % 7 = 0 then VO0_7.read (Elt F) (VO0_7.writes (Elt F) VO0_7.junk (runA m c t h0).1)
  else VO0_7.read (Elt F) (VO0_7.writes (Elt F) VO0_7.junk (runB m c t h0 (CODES m c) (HS m c)).1)

/-! ## The pipeline's proof data -/

/-- The proof data of the pipeline on core `c`: the arrays as the region finds them; after the body at point `t` each
    input's buffer at its block, the first output's at `Y`, the codes' and the scales' at what the first point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Y m c t
    | ⟨8, _⟩ => CODES m c
    | ⟨9, _⟩ => HS m c
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = Y m c t := by dsimp only [dats]
theorem after0_8 (c : Dev nD) (t : Fin cfg0.N) : (dats m 0 c).after 8 t = CODES m c := by dsimp only [dats]
theorem after0_9 (c : Dev nD) (t : Fin cfg0.N) : (dats m 0 c).after 9 t = HS m c := by dsimp only [dats]

/-! Each input's current staging buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The codes' window is touched at the first point alone. -/
theorem idle_8 (t : Fin cfg0.N) : cfg0.idle 8 (cfg0.grid.coords t) = !decide (t.val % 7 = 0) := by
  have h := hcond0_0 t
  by_cases h0 : t.val % 7 = 0
  · rw [decide_eq_true h0]
    show (!(Scalar.cmpi .ne (Scalar.extui (Scalar.cmpi .eq (BitVec.ofNat 32 (grid0.coords t 0).val) 0#32)) 0#32 == 1#1)) = _
    rw [h.mpr h0]; rfl
  · rw [decide_eq_false h0]
    show (!(Scalar.cmpi .ne (Scalar.extui (Scalar.cmpi .eq (BitVec.ofNat 32 (grid0.coords t 0).val) 0#32)) 0#32 == 1#1)) = _
    rw [beq_eq_false_iff_ne.mpr (fun h' => h0 (h.mp h'))]

/-- After the first point the codes' buffer is never fresh again before the last. -/
theorem fresh_8 (t : Fin cfg0.N) (h0 : ¬t.val % 7 = 0) : cfg0.fresh 8 t.val = false := by
  have hN : t.val < 7 := lt_of_lt_of_eq t.isLt (show cfg0.N = 7 from N_0)
  have h := Cfg.fresh_tab cfg0 8 (fun n => n == 0 || n == 7) rfl (fun s => by
    have hs : s.val < 7 := lt_of_lt_of_eq s.isLt (show cfg0.N = 7 from N_0)
    rw [idle_8 s]
    have e : (cfg0.win 8).flush s = decide (s.val % 7 = 6) := by
      rw [Bool.eq_iff_iff, decide_eq_true_iff]; exact flush0_8 s
    rw [e]
    generalize s.val = n at hs
    revert n; decide) t.val (Nat.le_of_lt t.isLt)
  rw [h]
  generalize t.val = n at hN h0
  revert n; decide

/-- At a later point the codes' buffer holds what the first point left. -/
theorem before0_8 (c : Dev nD) (t : Fin cfg0.N) (h0 : ¬t.val % 7 = 0) (d) : (dats m 0 c).before 8 t d = CODES m c := by
  rw [Dat.before_out_traj (dats m 0 c) 8 rfl (fun _ _ => rfl) (fun s _ _ _ => by rw [after0_8, after0_8]) t.val t rfl d,
    fresh_8 t h0, if_neg Bool.false_ne_true, after0_8]

/-- The scales' window is touched at the first point alone. -/
theorem idle_9 (t : Fin cfg0.N) : cfg0.idle 9 (cfg0.grid.coords t) = !decide (t.val % 7 = 0) := by
  have h := hcond0_0 t
  by_cases h0 : t.val % 7 = 0
  · rw [decide_eq_true h0]
    show (!(Scalar.cmpi .ne (Scalar.extui (Scalar.cmpi .eq (BitVec.ofNat 32 (grid0.coords t 0).val) 0#32)) 0#32 == 1#1)) = _
    rw [h.mpr h0]; rfl
  · rw [decide_eq_false h0]
    show (!(Scalar.cmpi .ne (Scalar.extui (Scalar.cmpi .eq (BitVec.ofNat 32 (grid0.coords t 0).val) 0#32)) 0#32 == 1#1)) = _
    rw [beq_eq_false_iff_ne.mpr (fun h' => h0 (h.mp h'))]

/-- After the first point the scales' buffer is never fresh again before the last. -/
theorem fresh_9 (t : Fin cfg0.N) (h0 : ¬t.val % 7 = 0) : cfg0.fresh 9 t.val = false := by
  have hN : t.val < 7 := lt_of_lt_of_eq t.isLt (show cfg0.N = 7 from N_0)
  have h := Cfg.fresh_tab cfg0 9 (fun n => n == 0 || n == 7) rfl (fun s => by
    have hs : s.val < 7 := lt_of_lt_of_eq s.isLt (show cfg0.N = 7 from N_0)
    rw [idle_9 s]
    have e : (cfg0.win 9).flush s = decide (s.val % 7 = 6) := by
      rw [Bool.eq_iff_iff, decide_eq_true_iff]; exact flush0_9 s
    rw [e]
    generalize s.val = n at hs
    revert n; decide) t.val (Nat.le_of_lt t.isLt)
  rw [h]
  generalize t.val = n at hN h0
  revert n; decide

/-- At a later point the scales' buffer holds what the first point left. -/
theorem before0_9 (c : Dev nD) (t : Fin cfg0.N) (h0 : ¬t.val % 7 = 0) (d) : (dats m 0 c).before 9 t d = HS m c := by
  rw [Dat.before_out_traj (dats m 0 c) 9 rfl (fun _ _ => rfl) (fun s _ _ _ => by rw [after0_9, after0_9]) t.val t rfl d,
    fresh_9 t h0, if_neg Bool.false_ne_true, after0_9]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns: at a later point the codes' and the scales' buffers as it found them. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (dats m 0 c).leavesExact 8 t
    ∗ (dats m 0 c).leavesExact 9 t)

/-- A buffer at the contents the first point left is what the post asks of window 8, at every point. -/
theorem leaves_8 (c : Dev nD) (t : Fin cfg0.N) :
    owns (c : Thread nD τ) (ms0_8 t) fullShare (CODES m c) ⊢ ((dats m 0 c).leavesExact 8 t : sProp 𝕄) := by
  have hi := idle_8 t
  by_cases h0 : t.val % 7 = 0
  · replace hi := hi.trans (by rw [decide_eq_true h0]; rfl : _ = false)
    unfold Dat.leavesExact; rw [hi]
    dsimp only; rw [after0_8]
  · replace hi := hi.trans (by rw [decide_eq_false h0]; rfl : _ = true)
    unfold Dat.leavesExact; rw [hi]; dsimp only
    cases (cfg0.win 8).flush t
    · dsimp only; simp only [before0_8 m c t h0]
      iintro H; iexists (fun _ => default); iexact H
    · dsimp only; rw [after0_8]

/-- A buffer at the contents the first point left is what the post asks of window 9, at every point. -/
theorem leaves_9 (c : Dev nD) (t : Fin cfg0.N) :
    owns (c : Thread nD τ) (ms0_9 t) fullShare (HS m c) ⊢ ((dats m 0 c).leavesExact 9 t : sProp 𝕄) := by
  have hi := idle_9 t
  by_cases h0 : t.val % 7 = 0
  · replace hi := hi.trans (by rw [decide_eq_true h0]; rfl : _ = false)
    unfold Dat.leavesExact; rw [hi]
    dsimp only; rw [after0_9]
  · replace hi := hi.trans (by rw [decide_eq_false h0]; rfl : _ = true)
    unfold Dat.leavesExact; rw [hi]; dsimp only
    cases (cfg0.win 9).flush t
    · dsimp only; simp only [before0_9 m c t h0]
      iintro H; iexists (fun _ => default); iexact H
    · dsimp only; rw [after0_9]

set_option maxHeartbeats 1600000 in
/-- The body at any point: the inputs' buffers hold their blocks; at the first point the run that quantises applies, at
    a later one the run that multiplies, the codes' and the scales' buffers holding what the first point left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  have hN : t.val < 7 := lt_of_lt_of_eq t.isLt (show cfg0.N = 7 from N_0)
  by_cases h0 : t.val % 7 = 0
  · obtain rfl : t = t₀ := Fin.ext (show t.val = 0 by omega)
    have e7 : Y m c t₀ = VO0_7.read (Elt F) (VO0_7.writes (Elt F) VO0_7.junk (runA m c t₀ rfl).1) := dif_pos rfl
    rw [e7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA m c t₀ rfl).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_A_7 m c t₀ rfl)
    isplitl [H8]
    · iapply (leaves_8 m c t₀)
      unfold owns; iexists _; isplitr
      swap; · iexact H8
      ipureintro; exact View.read_writes_of_cover _ _ _ _ _ (cover_A_8 m c t₀ rfl)
    iapply (leaves_9 m c t₀)
    unfold owns; iexists _; isplitr
    swap; · iexact H9
    ipureintro; exact View.read_writes_of_cover _ _ _ _ _ (cover_A_9 m c t₀ rfl)
  · simp only [before0_8 m c t h0, before0_9 m c t h0]
    have e7 : Y m c t = VO0_7.read (Elt F) (VO0_7.writes (Elt F) VO0_7.junk (runB m c t h0 (CODES m c) (HS m c)).1) := dif_neg h0
    rw [e7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB m c t h0 (CODES m c) (HS m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover_B_7 m c t h0 _ _)
    isplitl [H8]
    · iapply (leaves_8 m c t); iexact H8
    iapply (leaves_9 m c t); iexact H9

/-- The body table's row at point `t`'s slots is the body called at that point. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch's implicit arguments are found by unifying its conclusion with this one, which takes unfolding plain
-- definitions in a metavariable's type
set_option backward.isDefEq.respectTransparency.types false in
/-- The whole program terminates from any memory with zero counters, with every array of the pipeline at what the proof
    data compute, every other unscoped buffer as the region found it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the argument arrays end as they began, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Hand

end
-- ==== Proof.Rows.lean ====
/- What one row of activations becomes: normalisation, modulation, the row's power-of-two scale, the codes. The scale's
   exponent is written twice, as the kernel finds it and as the reference states it. -/
module

public import Idealize.ShloMosaic.Lib.Pipeline.ValueKit

@[expose] public section

noncomputable section

namespace Cert.Rows

open Idealize.ShloMosaic

/-- A row of 7168 extended reals. -/
abbrev Row := Fin 7168 → EReal

/-- The number of entries of a row, as the programs write it. -/
def width : EReal := Ideal.ofBits .f32 0x45E00000#32

/-- The mean of a row. -/
def mean (X : Row) : EReal := Ideal.div (∑ k, X k) width

/-- How far an entry lies from the mean of its row. -/
def dev (X : Row) (k : Fin 7168) : EReal := X k - mean X

/-- One over the square root of the row's variance plus a small constant. -/
def rstd (X : Row) : EReal :=
  Ideal.rsqrt (Ideal.div (∑ k, dev X k * dev X k) width + Ideal.ofBits .f32 0x358637BD#32)

/-- The normalised row. -/
def normal (X : Row) (k : Fin 7168) : EReal := dev X k * rstd X

/-- The normalised row, scaled by one plus `C` and shifted by `S`. -/
def modulated (X C S : Row) (k : Fin 7168) : EReal := normal X k * (1 + C k) + S k

/-- Row `r` of batch `b` of the activations `A`, modulated by the batch's rows of `C` and `S`. -/
def rowH (A : (⟨3, ![2, 128, 7168]⟩ : Shape).Idx → EReal) (C S : (⟨2, ![2, 7168]⟩ : Shape).Idx → EReal) (b : Fin 2) (r : Fin 128) : Row :=
  modulated (fun k => A (ix3 b r k)) (fun k => C (ix2 b k)) (fun k => S (ix2 b k))

/-- The largest magnitude of a row. -/
def amax (H : Row) : EReal := Finset.fold max (Ideal.ofBits .f32 0xFF800000#32) (fun k => max (H k) (-(H k))) Finset.univ

/-- The largest magnitude over the largest code, 448. -/
def ratio (H : Row) : EReal := amax H * Ideal.ofBits .f32 0x3B124925#32

/-- The float whose bits are the biased exponent `b` and a zero fraction. -/
def ofExponent (b : BitVec 32) : EReal := Ideal.ofBits .f32 (IntOp.shli ArithUnit.vector b 23#32)

/-! ## The scale as the kernel finds it -/

/-- The biased exponent of `v`: the largest of 0 … 255 whose power of two is at most `v`. -/
def biased (v : EReal) : BitVec 32 :=
  Finset.fold IntOp.maxsi 2147483648#32
    (fun k : Fin 256 => if ofExponent (BitVec.ofNat 32 k) ≤ v then BitVec.ofNat 32 k else 0#32) Finset.univ

/-- The exponent of the scale: nothing for zero, a subnormal or an infinity, else the one that brings `v` into [1/2, 1). -/
def exponent (b : BitVec 32) : BitVec 32 :=
  Scalar.select (IntOp.ori (IntOp.cmpi .eq b 0#32) (IntOp.cmpi .eq b 255#32)) 0#32 (IntOp.subi b 126#32)

/-- An entry divided by the scale and clipped to the codes' range. -/
def kernelCode (h v : EReal) : EReal :=
  min (Ideal.ofBits .f32 0x43E00000#32) (max (Ideal.ofBits .f32 0xC3E00000#32)
    (h * ofExponent (IntOp.subi 127#32 (exponent (biased v)))))

/-- The scale of a row. -/
def kernelScale (v : EReal) : EReal := ofExponent (IntOp.addi 127#32 (exponent (biased v)))

/-! ## The scale as the reference states it -/

/-- The exponent of the scale: nothing below the smallest normal float, else one more than the floor of the logarithm. -/
def refExponent (v : EReal) : EReal :=
  if v < Ideal.ofBits .f32 0x00800000#32 then 0
  else Ideal.liftRound Int.floor (Ideal.div (Ideal.log v) (Ideal.log (Ideal.ofBits .f32 0x40000000#32))) + 1

/-- An entry times two to the negated exponent, clipped to the codes' range. -/
def refCode (h v : EReal) : EReal :=
  min (Ideal.ofBits .f32 0x43E00000#32) (max (Ideal.ofBits .f32 0xC3E00000#32)
    (h * Ideal.pow (Ideal.ofBits .f32 0x40000000#32) (0 - refExponent v)))

/-- The scale of a row. -/
def refScale (v : EReal) : EReal := Ideal.pow (Ideal.ofBits .f32 0x40000000#32) (refExponent v)

end Cert.Rows

end
-- ==== Proof.KernelRows.lean ====
/- What the kernel computes from sixteen rows: their codes and their scales, row by row. -/
module

public import proofs.«01_k».proof.Proof.Rows
public import proofs.«01_k».proof.Proof.Gen.KernelIdeal.Skeleton

@[expose] public section

set_option maxRecDepth 16384

noncomputable section

namespace Cert.KernelIdeal.Hand

open Cert.KernelIdeal Cert.KernelIdeal.Gen Cert.Rows
open Idealize.ShloMosaic Idealize.ShloMosaic.TcCoe Idealize.SL.Sem

variable (X : Vec Ideal S1x16x7168 .bf16) (C S : Vec Ideal S1x7168 .bf16)

/-- The codes of sixteen rows. -/
def QC : Vec Ideal S1x16x7168 .fp8e4m3 := k0_pay5 (F := Ideal) (k0_pay2 X C S) (k0_pay3 X C S)

/-- The scales of sixteen rows. -/
def QS : Vec Ideal S1x16x1 .f32 := k0_pay6 (F := Ideal) (k0_pay3 X C S)

/-- The row `r` of sixteen, modulated. -/
def rowOf (r : Fin 16) : Row := modulated (fun k => X (ix3 0 r k)) (fun k => C (ix2 0 k)) (fun k => S (ix2 0 k))

/-- The kernel's modulated rows are the rows modulated. -/
theorem modulated_at (r : Fin 16) (k : Fin 7168) : k0_pay2 (F := Ideal) X C S (ix2 r k) = rowOf X C S r k := by
  pointwise [k0_pay2]
  rfl

/-- Its comparisons at a row are those of the row's ratio with the powers of two. -/
theorem compare_at (r : Fin 16) (k : Fin 256) : k0_pay3 (F := Ideal) X C S (ix2 r k)
    = if ofExponent (BitVec.ofNat 32 k) ≤ ratio (rowOf X C S r) then BitVec.ofNat 32 k else 0#32 := by
  pointwise [k0_pay3]
  simp only [modulated_at]
  rfl

/-- The largest power found is the biased exponent of the row's ratio. -/
theorem exponent_at (r : Fin 16) : k0_pay4 (k0_pay3 (F := Ideal) X C S) (ix2 r 0) = exponent (biased (ratio (rowOf X C S r))) := by
  pointwise [k0_pay4]
  simp only [compare_at]
  rfl

/-- The codes of sixteen rows, at an entry. -/
theorem QC_at (x : S1x16x7168.Idx) : QC X C S x = kernelCode (rowOf X C S (x 1) (x 2)) (ratio (rowOf X C S (x 1))) := by
  idx_vars x
  obtain rfl : x0 = 0 := Subsingleton.elim _ _
  show QC X C S (ix3 0 x1 x2) = kernelCode (rowOf X C S x1 x2) (ratio (rowOf X C S x1))
  unfold QC
  pointwise [k0_pay5]
  simp only [modulated_at, exponent_at]
  rfl

/-- The scales of sixteen rows, at a row. -/
theorem QS_at (x : S1x16x1.Idx) : QS X C S x = kernelScale (ratio (rowOf X C S (x 1))) := by
  idx_vars x
  obtain rfl : x0 = 0 := Subsingleton.elim _ _
  obtain rfl : x2 = 0 := Subsingleton.elim _ _
  show QS X C S (ix3 0 x1 0) = kernelScale (ratio (rowOf X C S x1))
  unfold QS
  pointwise [k0_pay6]
  simp only [exponent_at]
  rfl

end Cert.KernelIdeal.Hand

end
-- ==== Proof.Codes.lean ====
/- What the kernel leaves in its codes and its scales: every row's, from the activations and the modulation. -/
module

public import proofs.«01_k».proof.Proof.Body
public import proofs.«01_k».proof.Proof.KernelRows

@[expose] public section

set_option maxRecDepth 16384

noncomputable section

namespace Cert.KernelIdeal.Hand

open Cert.KernelIdeal Cert.KernelIdeal.Gen Cert.Rows
open Idealize.ShloMosaic Idealize.ShloMosaic.TcCoe Idealize.SL.Sem

variable (m : (ℓ : Loc nD τ sig) → Buf (Elt Ideal) ℓ)

/-- The modulated rows of the blocks the first point is given. -/
def rowT (c : Dev nD) (b : Fin 2) (r : Fin 128) : Row := rowH (iblk m c 0 t₀) (iblk m c 2 t₀) (iblk m c 1 t₀) b r

/-- Sixteen rows that are the rows from `o` on of batch `b` are modulated as those. -/
theorem rowOf_eq (A : Vec Ideal S2x128x7168 .bf16) (C S : Vec Ideal S2x7168 .bf16) (X : Vec Ideal S1x16x7168 .bf16)
    (C' S' : Vec Ideal S1x7168 .bf16) (b : Fin 2) (r : Fin 128) (r' : Fin 16) (hX : ∀ k : Fin 7168, X (ix3 0 r' k) = A (ix3 b r k))
    (hC : ∀ k : Fin 7168, C' (ix2 0 k) = C (ix2 b k)) (hS : ∀ k : Fin 7168, S' (ix2 0 k) = S (ix2 b k)) :
    rowOf X C' S' r' = rowH A C S b r := by
  unfold rowOf rowH
  rw [funext hX, funext hC, funext hS]

/-- A group's codes are the entries of the whole rows' codes. -/
theorem codes_group (A : Vec Ideal S2x128x7168 .bf16) (C S : Vec Ideal S2x7168 .bf16) (X : Vec Ideal S1x16x7168 .bf16)
    (C' S' : Vec Ideal S1x7168 .bf16) (x : S1x16x7168.Idx) (b : Fin 2) (r : Fin 128) (k : Fin 7168) (hk : (k : ℕ) = x 2)
    (hX : ∀ k : Fin 7168, X (ix3 0 (x 1) k) = A (ix3 b r k))
    (hC : ∀ k : Fin 7168, C' (ix2 0 k) = C (ix2 b k)) (hS : ∀ k : Fin 7168, S' (ix2 0 k) = S (ix2 b k)) :
    QC X C' S' x = kernelCode (rowH A C S b r k) (ratio (rowH A C S b r)) := by
  rw [QC_at, rowOf_eq A C S X C' S' b r (x 1) hX hC hS, show x 2 = k from Fin.ext hk.symm]

/-- A group's scales are the whole rows' scales. -/
theorem scales_group (A : Vec Ideal S2x128x7168 .bf16) (C S : Vec Ideal S2x7168 .bf16) (X : Vec Ideal S1x16x7168 .bf16)
    (C' S' : Vec Ideal S1x7168 .bf16) (x : S1x16x1.Idx) (b : Fin 2) (r : Fin 128)
    (hX : ∀ k : Fin 7168, X (ix3 0 (x 1) k) = A (ix3 b r k))
    (hC : ∀ k : Fin 7168, C' (ix2 0 k) = C (ix2 b k)) (hS : ∀ k : Fin 7168, S' (ix2 0 k) = S (ix2 b k)) :
    QS X C' S' x = kernelScale (ratio (rowH A C S b r)) := by
  rw [QS_at, rowOf_eq A C S X C' S' b r (x 1) hX hC hS]

/-- A row of a group is a row of the whole. -/
theorem ld_group (A : Vec Ideal S2x128x7168 .bf16) (b0 r0 : ℕ) (inb) (r' : Fin 16) (k : Fin 7168) (b : Fin 2) (r : Fin 128)
    (hb : (b : ℕ) = b0) (hr : (r : ℕ) = r0 + r') :
    View.ld A (Rect.unit (s := S2x128x7168) ![b0, r0, 0] ![1, 16, 7168] inb) (ix3 0 r' k) = A (ix3 b r k) := by
  rw [View.ld_apply]
  refine congrArg A (funext fun a => Fin.ext ?_)
  rw [Rect.idx_unit_val]
  match a with
  | ⟨0, _⟩ => exact hb.symm
  | ⟨1, _⟩ => exact hr.symm
  | ⟨2, _⟩ => exact Nat.zero_add _

/-- A batch's row of the modulation is a row of the whole. -/
theorem ld_batch (C : Vec Ideal S2x7168 .bf16) (b0 : ℕ) (inb) (k : Fin 7168) (b : Fin 2) (hb : (b : ℕ) = b0) :
    View.ld C (Rect.unit (s := S2x7168) ![b0, 0] ![1, 7168] inb) (ix2 0 k) = C (ix2 b k) := by
  rw [View.ld_apply]
  refine congrArg C (funext fun a => Fin.ext ?_)
  rw [Rect.idx_unit_val]
  match a with
  | ⟨0, _⟩ => exact hb.symm
  | ⟨1, _⟩ => exact Nat.zero_add _

/-- The codes the kernel leaves. -/
theorem CODES_at (c : Dev nD) (y : S2x128x7168.Idx) :
    CODES m c y = kernelCode (rowT m c (y 0) (y 1) (y 2)) (ratio (rowT m c (y 0) (y 1))) := by
  unfold CODES runA
  frame_out
  canon_tiles x h
  all_goals
    have hx : ((x 0 : Fin 1) : ℕ) = 0 := by omega
    exact codes_group (iblk m c 0 t₀) (iblk m c 2 t₀) (iblk m c 1 t₀) _ _ _ x (y 0) (y 1) (y 2) (by omega)
      (fun k => ld_group _ _ _ _ (x 1) k _ _ (by omega) (by omega)) (fun k => ld_batch _ _ _ k _ (by omega))
      fun k => ld_batch _ _ _ k _ (by omega)

/-- The scales the kernel leaves. -/
theorem HS_at (c : Dev nD) (y : S2x128x1.Idx) :
    HS m c y = kernelScale (ratio (rowT m c (y 0) (y 1))) := by
  unfold HS runA
  frame_out
  canon_tiles x h
  all_goals
    have hx : ((x 0 : Fin 1) : ℕ) = 0 := by omega
    exact scales_group (iblk m c 0 t₀) (iblk m c 2 t₀) (iblk m c 1 t₀) _ _ _ x (y 0) (y 1)
      (fun k => ld_group _ _ _ _ (x 1) k _ _ (by omega) (by omega)) (fun k => ld_batch _ _ _ k _ (by omega))
      fun k => ld_batch _ _ _ k _ (by omega)

end Cert.KernelIdeal.Hand

end
-- ==== Proof.Product.lean ====
/- What a grid point leaves in its block of the first output: the product of the codes with the point's block of the
   weights, scaled, shifted by the bias and gated. -/
module

public import proofs.«01_k».proof.Proof.Codes

@[expose] public section

set_option maxRecDepth 16384

noncomputable section

namespace Cert.KernelIdeal.Hand

open Cert.KernelIdeal Cert.KernelIdeal.Gen Cert.Rows
open Idealize.ShloMosaic Idealize.ShloMosaic.TcCoe Idealize.SL.Sem

variable (m : (ℓ : Loc nD τ sig) → Buf (Elt Ideal) ℓ)

/-- One batch's block of the first output at an index, from the batch's codes `D` and scales `H`. -/
theorem batch_at (D : Vec Ideal S1x128x7168 .fp8e4m3) (w : Vec Ideal S7168x1280 .fp8e4m3) (H : Vec Ideal S1x128x1 .f32)
    (ws : Vec Ideal S1x1280 .f32) (bi g : Vec Ideal S1x1280 .bf16) (x : S1x128x1280.Idx) :
    k0_pay108 D w H ws bi g x =
      ((∑ k : Fin 7168, D (ix3 0 (x 1) k) * w (ix2 k (x 2))) * H (ix3 0 (x 1) 0) * ws (ix2 0 (x 2)) + bi (ix2 0 (x 2))) * g (ix2 0 (x 2)) := by
  idx_vars x
  pointwise [k0_pay108]

/-- The block of the first output, from the codes `A`, the scales `B` and the blocks of the other inputs. -/
def block (A : Vec Ideal S2x128x7168 .fp8e4m3) (w : Vec Ideal S7168x1280 .fp8e4m3) (B : Vec Ideal S2x128x1 .f32)
    (ws : Vec Ideal S1x1280 .f32) (bi : Vec Ideal S1x1280 .bf16) (g : Vec Ideal S2x1280 .bf16) (b : Fin 2) (r : Fin 128) (j : Fin 1280) : EReal :=
  ((∑ k : Fin 7168, A (ix3 b r k) * w (ix2 k j)) * B (ix3 b r 0) * ws (ix2 0 j) + bi (ix2 0 j)) * g (ix2 b j)

/-- A batch's codes and scales being those of the whole, its block is the batch's part of the whole block. -/
theorem batch_block (A : Vec Ideal S2x128x7168 .fp8e4m3) (w : Vec Ideal S7168x1280 .fp8e4m3) (B : Vec Ideal S2x128x1 .f32)
    (ws : Vec Ideal S1x1280 .f32) (bi : Vec Ideal S1x1280 .bf16) (g : Vec Ideal S2x1280 .bf16)
    (D : Vec Ideal S1x128x7168 .fp8e4m3) (H : Vec Ideal S1x128x1 .f32) (g' : Vec Ideal S1x1280 .bf16) (x : S1x128x1280.Idx)
    (b : Fin 2) (r : Fin 128) (j : Fin 1280) (hr : (r : ℕ) = x 1) (hj : (j : ℕ) = x 2)
    (hD : ∀ k : Fin 7168, D (ix3 0 (x 1) k) = A (ix3 b (x 1) k)) (hH : H (ix3 0 (x 1) 0) = B (ix3 b (x 1) 0)) (hg : g' (ix2 0 (x 2)) = g (ix2 b (x 2))) :
    k0_pay108 D w H ws bi g' x = block A w B ws bi g b r j := by
  obtain rfl : r = x 1 := Fin.ext hr
  obtain rfl : j = x 2 := Fin.ext hj
  have hD' : ∀ k : Fin 7168, D (ix3 0 (x 1) k) * w (ix2 k (x 2)) = A (ix3 b (x 1) k) * w (ix2 k (x 2)) := fun k => by rw [hD k]
  rw [batch_at, hH, hg, funext hD']
  rfl

/-- A batch's codes are the batch's part of all codes. -/
theorem ld_codes (A A' : Vec Ideal S2x128x7168 .fp8e4m3) (h : A' = A) (b0 : ℕ) (inb) (r : Fin 128) (k : Fin 7168) (b : Fin 2) (hb : (b : ℕ) = b0) :
    View.ld A' (Rect.unit (s := S2x128x7168) ![b0, 0, 0] ![1, 128, 7168] inb) (ix3 0 r k) = A (ix3 b r k) := by
  subst h
  rw [View.ld_apply]
  refine congrArg A' (funext fun a => Fin.ext ?_)
  rw [Rect.idx_unit_val]
  match a with
  | ⟨0, _⟩ => exact hb.symm
  | ⟨1, _⟩ => exact Nat.zero_add _
  | ⟨2, _⟩ => exact Nat.zero_add _

/-- A batch's scales are the batch's part of all scales. -/
theorem ld_scales (B B' : Vec Ideal S2x128x1 .f32) (h : B' = B) (b0 : ℕ) (inb) (r : Fin 128) (b : Fin 2) (hb : (b : ℕ) = b0) :
    View.ld B' (Rect.unit (s := S2x128x1) ![b0, 0, 0] ![1, 128, 1] inb) (ix3 0 r 0) = B (ix3 b r 0) := by
  subst h
  rw [View.ld_apply]
  refine congrArg B' (funext fun a => Fin.ext ?_)
  rw [Rect.idx_unit_val]
  match a with
  | ⟨0, _⟩ => exact hb.symm
  | ⟨1, _⟩ => exact Nat.zero_add _
  | ⟨2, _⟩ => rfl

/-- A batch's gates are the batch's part of the gates. -/
theorem ld_gate (g : Vec Ideal S2x1280 .bf16) (b0 : ℕ) (inb) (j : Fin 1280) (b : Fin 2) (hb : (b : ℕ) = b0) :
    View.ld g (Rect.unit (s := S2x1280) ![b0, 0] ![1, 1280] inb) (ix2 0 j) = g (ix2 b j) := by
  rw [View.ld_apply]
  refine congrArg g (funext fun a => Fin.ext ?_)
  rw [Rect.idx_unit_val]
  match a with
  | ⟨0, _⟩ => exact hb.symm
  | ⟨1, _⟩ => exact Nat.zero_add _

/-- The codes as the pieces the first point stores. -/
theorem canon_codes (c : Dev nD) : View.canon (runA m c t₀ rfl).2.1 = CODES m c :=
  (View.read_writes_eq_canon _ _ _ (cover_A_8 m c t₀ rfl)).symm

/-- The scales as the pieces the first point stores. -/
theorem canon_scales (c : Dev nD) : View.canon (runA m c t₀ rfl).2.2.1 = HS m c :=
  (View.read_writes_eq_canon _ _ _ (cover_A_9 m c t₀ rfl)).symm

/-- At a later point the block is computed from the codes and the scales kept. -/
theorem later_at (c : Dev nD) (t : Fin cfg0.N) (ht : ¬t.val % 7 = 0) (y : S2x128x1280.Idx) :
    VO0_7.read (Elt Ideal) (VO0_7.writes (Elt Ideal) VO0_7.junk (runB m c t ht (CODES m c) (HS m c)).1) y =
      block (CODES m c) (iblk m c 4 t) (HS m c) (iblk m c 5 t) (iblk m c 6 t) (iblk m c 3 t) (y 0) (y 1) (y 2) := by
  unfold runB
  generalize hA : CODES m c = A
  generalize hB : HS m c = B
  frame_out
  canon_tiles x h
  all_goals
    have hx : ((x 0 : Fin 1) : ℕ) = 0 := by omega
    exact batch_block A (iblk m c 4 t) B (iblk m c 5 t) (iblk m c 6 t) (iblk m c 3 t) _ _ _ x (y 0) (y 1) (y 2) (by omega) (by omega)
      (fun k => ld_codes _ _ rfl _ _ (x 1) k (y 0) (by omega)) (ld_scales _ _ rfl _ _ (x 1) (y 0) (by omega)) (ld_gate _ _ _ (x 2) (y 0) (by omega))

/-- A load through a box of writes that leave `A` reads `A` there. -/
theorem cov_ld {s : Shape} {e : EltTy} {sig : RefSig} {κ : Kind} {sp : Space} (v : View sig κ sp s e) (L : List (View.Piece (Elt Ideal) s e)) (r : Rect s)
    (A : Vec Ideal s e) (h : View.canon L = A) : v.readCov L r.toLoadRect = View.ld A r := by
  subst h
  exact View.readCov_eq_canon' v L r.toLoadRect

/-- At the first point the block is computed from the codes and the scales just stored. -/
theorem first_at (c : Dev nD) (y : S2x128x1280.Idx) :
    VO0_7.read (Elt Ideal) (VO0_7.writes (Elt Ideal) VO0_7.junk (runA m c t₀ rfl).1) y =
      block (CODES m c) (iblk m c 4 t₀) (HS m c) (iblk m c 5 t₀) (iblk m c 6 t₀) (iblk m c 3 t₀) (y 0) (y 1) (y 2) := by
  have hA := canon_codes m c
  have hB := canon_scales m c
  generalize CODES m c = A at hA ⊢
  generalize HS m c = B at hB ⊢
  unfold runA at hA hB ⊢
  frame_out at hA
  frame_out at hB
  frame_out
  canon_tiles x h
  all_goals
    have hx : ((x 0 : Fin 1) : ℕ) = 0 := by omega
    refine batch_block A (iblk m c 4 t₀) B (iblk m c 5 t₀) (iblk m c 6 t₀) (iblk m c 3 t₀) _ _ _ x (y 0) (y 1) (y 2) (by omega) (by omega)
      (fun k => ?_) ?_ (ld_gate _ _ _ (x 2) (y 0) (by omega))
  · exact (congrFun (cov_ld _ _ _ A hA) _).trans (ld_codes A A rfl _ _ (x 1) k (y 0) (by omega))
  · exact (congrFun (cov_ld _ _ _ B hB) _).trans (ld_scales B B rfl _ _ (x 1) (y 0) (by omega))
  · exact (congrFun (cov_ld _ _ _ A hA) _).trans (ld_codes A A rfl _ _ (x 1) k (y 0) (by omega))
  · exact (congrFun (cov_ld _ _ _ B hB) _).trans (ld_scales B B rfl _ _ (x 1) (y 0) (by omega))

/-- The block of the first output that any point leaves. -/
theorem Y_at (c : Dev nD) (t : Fin cfg0.N) (y : S2x128x1280.Idx) :
    Y m c t y = block (CODES m c) (iblk m c 4 t) (HS m c) (iblk m c 5 t) (iblk m c 6 t) (iblk m c 3 t) (y 0) (y 1) (y 2) := by
  unfold Y
  split
  next h =>
    have hN : t.val < 7 := lt_of_lt_of_eq t.isLt (show cfg0.N = 7 from N_0)
    obtain rfl : t = t₀ := Fin.ext (by show t.val = 0; omega)
    exact first_at m c y
  next h => exact later_at m c t h y

end Cert.KernelIdeal.Hand

end
-- ==== Proof.Exponent.lean ====
/- The kernel's scale is the reference's: below 2^126 the two exponents are the same number. -/
module

public import proofs.«01_k».proof.Proof.Rows

@[expose] public section

set_option maxRecDepth 16384

noncomputable section

namespace Cert.Rows

open Idealize.ShloMosaic

/-! ## Powers of two by their bits -/

/-- The fields of the word that holds the exponent `m` and nothing else. -/
theorem fields : ∀ m : Fin 256, ((BitVec.ofNat 32 m.val <<< (23#32)).extractLsb' 31 1 == 1#1) = false
    ∧ ((BitVec.ofNat 32 m.val <<< (23#32)).extractLsb' 23 8).toNat = m.val
    ∧ ((BitVec.ofNat 32 m.val <<< (23#32)).extractLsb' 0 23).toNat = 0 := by decide +kernel

/-- An exponent between 1 and 254 denotes its power of two. -/
theorem ofExponent_pow (m : ℕ) (h1 : 1 ≤ m) (h2 : m ≤ 254) :
    ofExponent (BitVec.ofNat 32 m) = (((2 : ℝ) ^ ((m : ℤ) - 127) : ℝ) : EReal) := by
  obtain ⟨hs, he, hf⟩ := fields ⟨m, by omega⟩
  have e : IntOp.shli ArithUnit.vector (BitVec.ofNat 32 m) 23#32 = BitVec.ofNat 32 m <<< (23#32) := if_pos (by decide)
  unfold ofExponent Ideal.ofBits Ideal.ieee
  rw [e]
  dsimp only at hs he hf ⊢
  rw [hs, he, hf, if_neg (by omega), if_neg (by omega)]
  rw [if_neg Bool.false_ne_true, EReal.coe_eq_coe_iff]
  have e1 : (2 : ℝ) ^ ((m : ℤ) - 127) = 2 ^ (23 : ℤ) * 2 ^ ((m : ℤ) - 127 - 23) := by
    rw [← zpow_add₀ (by norm_num), show (23 : ℤ) + ((m : ℤ) - 127 - 23) = (m : ℤ) - 127 by ring]
  have e2 : ((2 ^ 23 + 0 : ℕ) : ℝ) = 2 ^ (23 : ℤ) := by norm_num
  have e3 : (m : ℤ) - (2 ^ (8 - 1) - 1) - (23 : ℕ) = (m : ℤ) - 127 - 23 := by norm_num
  rw [e1, one_mul, e2, e3]

/-- The exponent 0 denotes zero. -/
theorem ofExponent_zero : ofExponent (BitVec.ofNat 32 0) = 0 := by
  obtain ⟨hs, he, hf⟩ := fields ⟨0, by omega⟩
  have e : IntOp.shli ArithUnit.vector (BitVec.ofNat 32 0) 23#32 = BitVec.ofNat 32 0 <<< (23#32) := if_pos (by decide)
  unfold ofExponent Ideal.ofBits Ideal.ieee
  rw [e]
  dsimp only at hs he hf ⊢
  rw [hs, he, hf, if_neg (by omega), if_pos rfl]
  norm_num

/-- The exponent 255 denotes plus infinity. -/
theorem ofExponent_top : ofExponent (BitVec.ofNat 32 255) = ⊤ := by
  obtain ⟨hs, he, hf⟩ := fields ⟨255, by omega⟩
  have e : IntOp.shli ArithUnit.vector (BitVec.ofNat 32 255) 23#32 = BitVec.ofNat 32 255 <<< (23#32) := if_pos (by decide)
  unfold ofExponent Ideal.ofBits Ideal.ieee
  rw [e]
  dsimp only at hs he hf ⊢
  rw [hs, he, hf, if_pos (by norm_num), if_pos rfl, if_neg (by decide)]

/-- The bound the reference compares with is the power of two at exponent 1. -/
theorem tiny_eq : Ideal.ofBits .f32 0x00800000#32 = (((2 : ℝ) ^ (-126 : ℤ) : ℝ) : EReal) := by
  have h := ofExponent_pow 1 (by omega) (by omega)
  have e : IntOp.shli ArithUnit.vector (BitVec.ofNat 32 1) 23#32 = 0x00800000#32 := by decide
  unfold ofExponent at h; rw [e] at h; rw [h]; norm_num

/-- The base of the reference's powers is 2. -/
theorem two_eq : Ideal.ofBits .f32 0x40000000#32 = ((2 : ℝ) : EReal) := by
  have h := ofExponent_pow 128 (by omega) (by omega)
  have e : IntOp.shli ArithUnit.vector (BitVec.ofNat 32 128) 23#32 = 0x40000000#32 := by decide
  unfold ofExponent at h; rw [e] at h; rw [h]; norm_num

/-! ## The biased exponent -/

/-- The signed value of the larger of two words is the larger of their signed values. -/
theorem toInt_maxsi (x y : BitVec 32) : max x.toInt y.toInt = (IntOp.maxsi x y).toInt := by
  unfold IntOp.maxsi
  by_cases h : y.slt x
  · rw [if_pos h, max_eq_left]; rw [BitVec.slt_iff_toInt_lt] at h; omega
  · rw [if_neg h, max_eq_right]; rw [BitVec.slt_iff_toInt_lt] at h; omega

/-- The signed value of a small word is the number it was made of. -/
theorem toInt_small : ∀ k : Fin 256, (BitVec.ofNat 32 k.val).toInt = k.val := by decide +kernel

/-- `v` has the biased exponent `n` when `n`'s power is at most `v` (or `n` is 0) and every larger one is above `v`. -/
theorem biased_eq (v : EReal) (n : ℕ) (hn : n < 256) (hle : n = 0 ∨ ofExponent (BitVec.ofNat 32 n) ≤ v)
    (hlt : ∀ k, n < k → k < 256 → v < ofExponent (BitVec.ofNat 32 k)) : biased v = BitVec.ofNat 32 n := by
  apply BitVec.eq_of_toInt_eq
  have hN : (BitVec.ofNat 32 n).toInt = n := toInt_small ⟨n, hn⟩
  unfold biased
  rw [← Finset.fold_hom (op' := max) (m := BitVec.toInt) (fun x y => (toInt_maxsi x y).symm), hN]
  apply le_antisymm
  · rw [Finset.fold_max_le]
    refine ⟨by have : (2147483648#32).toInt < 0 := by decide
               omega, fun k _ => ?_⟩
    split
    · next h =>
      rw [toInt_small k]
      by_contra hk
      exact absurd h (not_le.mpr (hlt k (by omega) k.isLt))
    · simp
  · rw [Finset.le_fold_max]
    refine Or.inr ⟨⟨n, hn⟩, Finset.mem_univ _, ?_⟩
    dsimp only
    rcases hle with rfl | h
    · split <;> simp
    · rw [if_pos h, hN]

/-- The two subtractions and the addition on exponents, for exponents between 1 and 252. -/
theorem exponent_words : ∀ n : Fin 253, 1 ≤ n.val →
    IntOp.subi 127#32 (exponent (BitVec.ofNat 32 n.val)) = BitVec.ofNat 32 (253 - n.val)
    ∧ IntOp.addi 127#32 (exponent (BitVec.ofNat 32 n.val)) = BitVec.ofNat 32 (n.val + 1) := by decide +kernel

/-- The floor of the binary logarithm. -/
def floorLog (r : ℝ) : ℤ := ⌊Real.log r / Real.log 2⌋

/-- A positive real lies between the power of two at the floor of its binary logarithm and the next one. -/
theorem floorLog_spec (r : ℝ) (hr : 0 < r) : (2 : ℝ) ^ floorLog r ≤ r ∧ r < (2 : ℝ) ^ (floorLog r + 1) := by
  have h2 : 0 < Real.log 2 := Real.log_pos (by norm_num)
  have hl : (floorLog r : ℝ) * Real.log 2 ≤ Real.log r := (le_div_iff₀ h2).mp (Int.floor_le _)
  have hu : Real.log r < ((floorLog r : ℝ) + 1) * Real.log 2 := (div_lt_iff₀ h2).mp (Int.lt_floor_add_one _)
  constructor
  · rw [← Real.log_le_log_iff (by positivity) hr, Real.log_zpow]; exact hl
  · rw [← Real.log_lt_log_iff hr (by positivity), Real.log_zpow]; push_cast; exact hu

/-- The reference's exponent of a positive real is one more than the floor of its binary logarithm. -/
theorem refExponent_real (r : ℝ) (h : (2 : ℝ) ^ (-126 : ℤ) ≤ r) :
    refExponent (r : EReal) = ((((floorLog r + 1 : ℤ)) : ℝ) : EReal) := by
  have hr : 0 < r := lt_of_lt_of_le (by positivity) h
  have h2 : Real.log 2 ≠ 0 := (Real.log_pos (by norm_num)).ne'
  unfold refExponent
  rw [tiny_eq, two_eq, if_neg (not_lt.mpr (EReal.coe_le_coe_iff.mpr h))]
  have e1 : Ideal.log (r : EReal) = ((Real.log r : ℝ) : EReal) := if_neg (not_le.mpr hr)
  have e2 : Ideal.log ((2 : ℝ) : EReal) = ((Real.log 2 : ℝ) : EReal) := if_neg (by norm_num)
  rw [e1, e2]
  have e3 : Ideal.div ((Real.log r : ℝ) : EReal) ((Real.log 2 : ℝ) : EReal) = ((Real.log r / Real.log 2 : ℝ) : EReal) := by
    unfold Ideal.div
    rw [if_neg (by exact_mod_cast h2), ← EReal.coe_inv, ← EReal.coe_mul]; rfl
  rw [e3]
  show (((floorLog r : ℝ)) : EReal) + 1 = _
  push_cast
  rfl

/-- Two to an integer power, in the reference's arithmetic. -/
theorem pow_two (j : ℤ) : Ideal.pow (Ideal.ofBits .f32 0x40000000#32) (((j : ℤ) : ℝ) : EReal) = (((2 : ℝ) ^ j : ℝ) : EReal) := by
  rw [two_eq]
  exact congrArg (fun x : ℝ => (x : EReal)) (Real.rpow_intCast 2 j)

/-- Below 2^126 the kernel's scale of a row and its reciprocal are the reference's. -/
theorem scales_eq (v : EReal) (h0 : 0 ≤ v) (h1 : v < (((2 : ℝ) ^ (126 : ℤ) : ℝ) : EReal)) :
    kernelScale v = refScale v
    ∧ ofExponent (IntOp.subi 127#32 (exponent (biased v))) = Ideal.pow (Ideal.ofBits .f32 0x40000000#32) (0 - refExponent v) := by
  lift v to ℝ using ⟨(h1.trans (EReal.coe_lt_top _)).ne, (lt_of_lt_of_le EReal.bot_lt_zero h0).ne'⟩ with r
  have h1r : r < (2 : ℝ) ^ (126 : ℤ) := EReal.coe_lt_coe_iff.mp h1
  unfold kernelScale refScale
  by_cases hs : r < (2 : ℝ) ^ (-126 : ℤ)
  · have hb : biased (r : EReal) = BitVec.ofNat 32 0 := by
      refine biased_eq _ 0 (by omega) (Or.inl rfl) fun k hk hk2 => ?_
      by_cases h255 : k = 255
      · subst h255; rw [ofExponent_top]; exact EReal.coe_lt_top _
      · rw [ofExponent_pow k (by omega) (by omega), EReal.coe_lt_coe_iff]
        exact lt_of_lt_of_le hs (zpow_le_zpow_right₀ (by norm_num) (by omega))
    have hr : refExponent (r : EReal) = (((0 : ℤ) : ℝ) : EReal) := by
      unfold refExponent
      rw [tiny_eq, if_pos (EReal.coe_lt_coe_iff.mpr hs)]; simp
    have hz : (0 : EReal) - (((0 : ℤ) : ℝ) : EReal) = (((0 : ℤ) : ℝ) : EReal) := by simp
    rw [hb, hr, hz, pow_two]
    have e1 : IntOp.subi 127#32 (exponent (BitVec.ofNat 32 0)) = BitVec.ofNat 32 127 := by decide
    have e2 : IntOp.addi 127#32 (exponent (BitVec.ofNat 32 0)) = BitVec.ofNat 32 127 := by decide
    rw [e1, e2, ofExponent_pow 127 (by omega) (by omega)]
    constructor <;> norm_num
  · have hs' : (2 : ℝ) ^ (-126 : ℤ) ≤ r := not_lt.mp hs
    have hr0 : 0 < r := lt_of_lt_of_le (by positivity) hs'
    obtain ⟨hjl, hju⟩ := floorLog_spec r hr0
    set j := floorLog r with hj
    have hja : -126 ≤ j := by
      have := (zpow_lt_zpow_iff_right₀ (by norm_num : (1 : ℝ) < 2)).mp (lt_of_le_of_lt hs' hju); omega
    have hjb : j ≤ 125 := by
      have := (zpow_lt_zpow_iff_right₀ (by norm_num : (1 : ℝ) < 2)).mp (lt_of_le_of_lt hjl h1r); omega
    obtain ⟨n, hn⟩ : ∃ n : ℕ, (n : ℤ) = j + 127 := ⟨(j + 127).toNat, by omega⟩
    have hb : biased (r : EReal) = BitVec.ofNat 32 n := by
      refine biased_eq _ n (by omega) (Or.inr ?_) fun k hk hk2 => ?_
      · rw [ofExponent_pow n (by omega) (by omega), EReal.coe_le_coe_iff, show (n : ℤ) - 127 = j by omega]
        exact hjl
      · by_cases h255 : k = 255
        · subst h255; rw [ofExponent_top]; exact EReal.coe_lt_top _
        · rw [ofExponent_pow k (by omega) (by omega), EReal.coe_lt_coe_iff]
          exact lt_of_lt_of_le hju (zpow_le_zpow_right₀ (by norm_num) (by omega))
    have hw := exponent_words ⟨n, by omega⟩ (by dsimp only; omega)
    dsimp only at hw
    have hz : (0 : EReal) - (((j + 1 : ℤ) : ℝ) : EReal) = (((-(j + 1) : ℤ) : ℝ) : EReal) := by
      rw [zero_sub, ← EReal.coe_neg]; push_cast; rfl
    rw [hb, hw.1, hw.2, refExponent_real r hs', ← hj, hz, pow_two, pow_two,
      ofExponent_pow (n + 1) (by omega) (by omega), ofExponent_pow (253 - n) (by omega) (by omega)]
    rw [show ((n + 1 : ℕ) : ℤ) - 127 = j + 1 by omega, show ((253 - n : ℕ) : ℤ) - 127 = -(j + 1) by omega]
    exact ⟨rfl, rfl⟩

/-- Below 2^126 the kernel's code of an entry is the reference's. -/
theorem codes_eq (h v : EReal) (h0 : 0 ≤ v) (h1 : v < (((2 : ℝ) ^ (126 : ℤ) : ℝ) : EReal)) : kernelCode h v = refCode h v := by
  unfold kernelCode refCode
  rw [(scales_eq v h0 h1).2]

end Cert.Rows

end
-- ==== Proof.Bound.lean ====
/- How large a modulated row can be: with finite modulation its ratio to the largest code stays below 2^126. -/
module

public import proofs.«01_k».proof.Proof.Rows

@[expose] public section

set_option maxRecDepth 16384

noncomputable section

namespace Cert.Rows

open Idealize.ShloMosaic

/-! ## The constants -/

/-- A positive normal float by its fields. -/
theorem ofBits_fields (b : BitVec 32) (e f : ℕ) (hs : (b.extractLsb' 31 1 == 1#1) = false)
    (he : (b.extractLsb' 23 8).toNat = e) (hf : (b.extractLsb' 0 23).toNat = f) (h1 : 1 ≤ e) (h2 : e ≤ 254) :
    Ideal.ofBits .f32 b = ((((2 ^ 23 + f : ℕ) : ℝ) * (2 : ℝ) ^ ((e : ℤ) - 150) : ℝ) : EReal) := by
  unfold Ideal.ofBits Ideal.ieee
  dsimp only
  rw [hs, he, hf, if_neg (by omega), if_neg (by omega), if_neg Bool.false_ne_true, EReal.coe_eq_coe_iff]
  have e3 : (e : ℤ) - (2 ^ (8 - 1) - 1) - (23 : ℕ) = (e : ℤ) - 150 := by push_cast; omega
  rw [one_mul, e3]

/-- The row's width is 7168. -/
theorem width_eq : width = ((7168 : ℝ) : EReal) := by
  unfold width
  rw [ofBits_fields 0x45E00000#32 139 0x600000 (by decide) (by decide) (by decide) (by omega) (by omega)]
  norm_num

/-- The constant under the root is positive. -/
theorem eps_pos : ∃ ε : ℝ, 0 < ε ∧ Ideal.ofBits .f32 0x358637BD#32 = (ε : EReal) :=
  ⟨_, by positivity, ofBits_fields 0x358637BD#32 107 407485 (by decide) (by decide) (by decide) (by omega) (by omega)⟩

/-- One over the largest code, as a float. -/
theorem inv448_eq : Ideal.ofBits .f32 0x3B124925#32 = ((9586981 / 2 ^ 32 : ℝ) : EReal) := by
  rw [ofBits_fields 0x3B124925#32 118 1198373 (by decide) (by decide) (by decide) (by omega) (by omega)]
  norm_num

/-- The start of the maximum is minus infinity. -/
theorem start_eq : Ideal.ofBits .f32 0xFF800000#32 = ⊥ := by
  unfold Ideal.ofBits Ideal.ieee
  dsimp only
  rw [if_pos (by decide), if_pos (by decide), if_pos (by decide)]

/-! ## Sums of extended reals -/

/-- A sum of reals is real. -/
theorem sum_real {ι : Type} [DecidableEq ι] (s : Finset ι) (x : ι → ℝ) : ∑ k ∈ s, (x k : EReal) = ((∑ k ∈ s, x k : ℝ) : EReal) := by
  induction s using Finset.induction_on with
  | empty => simp
  | insert a s ha ih => rw [Finset.sum_insert ha, Finset.sum_insert ha, ih, EReal.coe_add]

/-- A sum with an infinite term is infinite. -/
theorem sum_infinite {ι : Type} [DecidableEq ι] (s : Finset ι) (X : ι → EReal) (h : ∃ k ∈ s, X k = ⊤ ∨ X k = ⊥) :
    ∑ k ∈ s, X k = ⊤ ∨ ∑ k ∈ s, X k = ⊥ := by
  induction s using Finset.induction_on with
  | empty => simp at h
  | insert a s ha ih =>
    rw [Finset.sum_insert ha]
    obtain ⟨k, hk, hX⟩ := h
    rcases Finset.mem_insert.mp hk with rfl | hk
    · rcases hX with hX | hX
      · rw [hX]
        by_cases hb : ∑ k ∈ s, X k = ⊥
        · rw [hb]; right; simp
        · left; exact EReal.top_add_of_ne_bot hb
      · rw [hX]; right; simp
    · rcases ih ⟨k, hk, hX⟩ with h | h
      · rw [h]
        by_cases hb : X a = ⊥
        · rw [hb]; right; simp
        · left; exact EReal.add_top_of_ne_bot hb
      · rw [h]; right; simp

/-- A sum of infinities over a whole row is infinite. -/
theorem sum_top (X : Row) (h : ∀ k, X k = ⊤) : ∑ k, X k = ⊤ := by
  rcases sum_infinite Finset.univ X ⟨0, Finset.mem_univ _, Or.inl (h 0)⟩ with h' | h'
  · exact h'
  · exfalso
    have : 0 ≤ ∑ k, X k := Finset.sum_nonneg fun k _ => by rw [h k]; exact le_top
    rw [h'] at this
    simp at this

/-! ## The normalised row -/

/-- Division by a positive real. -/
theorem div_real (x : EReal) (y : ℝ) (hy : 0 < y) : Ideal.div x (y : EReal) = x * ((y⁻¹ : ℝ) : EReal) := by
  unfold Ideal.div
  rw [if_neg (by exact_mod_cast hy.ne'), ← EReal.coe_inv]

/-- A normalised entry of a row of reals is a real of magnitude at most 85, which is above the root of 7168. -/
theorem normal_real (x : Fin 7168 → ℝ) (k : Fin 7168) : ∃ r : ℝ, normal (fun k => (x k : EReal)) k = r ∧ |r| ≤ 85 := by
  obtain ⟨ε, hε, he⟩ := eps_pos
  set μ : ℝ := (∑ k, x k) * (7168 : ℝ)⁻¹ with hμ
  have h1 : mean (fun k => (x k : EReal)) = (μ : EReal) := by
    unfold mean; rw [width_eq, div_real _ _ (by norm_num), sum_real, ← EReal.coe_mul]
  have h2 : ∀ k, dev (fun k => (x k : EReal)) k = ((x k - μ : ℝ) : EReal) := fun k => by
    unfold dev; rw [h1, ← EReal.coe_sub]
  set σ : ℝ := (∑ k, (x k - μ) * (x k - μ)) * (7168 : ℝ)⁻¹ with hσ
  have hsum : 0 ≤ ∑ k, (x k - μ) * (x k - μ) := Finset.sum_nonneg fun k _ => mul_self_nonneg _
  have hσ0 : 0 ≤ σ := mul_nonneg hsum (by norm_num)
  have h3 : rstd (fun k => (x k : EReal)) = (((Real.sqrt (σ + ε))⁻¹ : ℝ) : EReal) := by
    unfold rstd
    simp only [h2, ← EReal.coe_mul]
    rw [width_eq, div_real _ _ (by norm_num), sum_real, ← EReal.coe_mul, he, ← EReal.coe_add]
    show (if σ + ε < 0 then (⊥ : EReal) else if σ + ε = 0 then ⊤ else (((Real.sqrt (σ + ε))⁻¹ : ℝ) : EReal)) = _
    rw [if_neg (by linarith), if_neg (by linarith)]
  refine ⟨(x k - μ) * (Real.sqrt (σ + ε))⁻¹, ?_, ?_⟩
  · unfold normal; rw [h2, h3, ← EReal.coe_mul]
  · have hs : 0 < Real.sqrt (σ + ε) := Real.sqrt_pos.mpr (by linarith)
    rw [abs_mul, abs_of_pos (inv_pos.mpr hs), ← div_eq_mul_inv, div_le_iff₀ hs]
    have hd : (x k - μ) * (x k - μ) ≤ 7168 * σ := by
      have := Finset.single_le_sum (f := fun k => (x k - μ) * (x k - μ)) (fun k _ => mul_self_nonneg _) (Finset.mem_univ k)
      rw [hσ]; linarith
    have hq : Real.sqrt (σ + ε) * Real.sqrt (σ + ε) = σ + ε := Real.mul_self_sqrt (by linarith)
    apply abs_le_of_sq_le_sq _ (by positivity)
    nlinarith

/-- In a row with an infinite entry every normalised entry is zero. -/
theorem normal_infinite (X : Row) (h : ∃ k, X k = ⊤ ∨ X k = ⊥) (k : Fin 7168) : normal X k = 0 := by
  obtain ⟨ε, hε, he⟩ := eps_pos
  have h7 : (0 : EReal) < (((7168 : ℝ)⁻¹ : ℝ) : EReal) := by exact_mod_cast (by norm_num : (0 : ℝ) < (7168 : ℝ)⁻¹)
  have hm : mean X = ⊤ ∨ mean X = ⊥ := by
    unfold mean; rw [width_eq, div_real _ _ (by norm_num)]
    obtain ⟨j, hj⟩ := h
    rcases sum_infinite Finset.univ X ⟨j, Finset.mem_univ _, hj⟩ with h' | h'
    · left; rw [h']; exact EReal.top_mul_of_pos h7
    · right; rw [h']; exact EReal.bot_mul_of_pos h7
  have hd : ∀ k, dev X k = ⊤ ∨ dev X k = ⊥ := fun k => by
    unfold dev
    rcases hm with h' | h' <;> rw [h', sub_eq_add_neg]
    · right; simp
    · by_cases hb : X k = ⊥
      · right; rw [hb]; simp
      · left; rw [EReal.neg_bot]; exact EReal.add_top_of_ne_bot hb
  have hq : ∀ k, dev X k * dev X k = ⊤ := fun k => by
    rcases hd k with h' | h' <;> rw [h'] <;> simp
  have hr : rstd X = 0 := by
    unfold rstd
    rw [sum_top _ hq, width_eq, div_real _ _ (by norm_num), EReal.top_mul_of_pos h7, he, EReal.top_add_coe]
    rfl
  unfold normal; rw [hr, mul_zero]

/-- A normalised entry of any row is a real of magnitude at most 85. -/
theorem normal_bound (X : Row) (k : Fin 7168) : ∃ r : ℝ, normal X k = r ∧ |r| ≤ 85 := by
  by_cases h : ∃ k, X k = ⊤ ∨ X k = ⊥
  · exact ⟨0, by rw [normal_infinite X h k]; rfl, by norm_num⟩
  · push Not at h
    have : X = fun k => (((X k).toReal : ℝ) : EReal) := funext fun k => (EReal.coe_toReal (h k).1 (h k).2).symm
    rw [this]
    exact normal_real _ k

/-! ## The ratio -/

/-- The magnitude of a real. -/
theorem abs_coe (x : ℝ) : max (x : EReal) (-(x : EReal)) = ((|x| : ℝ) : EReal) := by
  rw [← EReal.coe_neg]
  exact (EReal.coe_strictMono.monotone.map_max (a := x) (b := -x)).symm

/-- With finite modulation the ratio of a modulated row to the largest code is not negative and below 2^126. -/
theorem ratio_bound (X C S : Row) (hC : ∀ k, ∃ c : ℝ, C k = c ∧ |c| ≤ 2 ^ 128) (hS : ∀ k, ∃ s : ℝ, S k = s ∧ |s| ≤ 2 ^ 128) :
    0 ≤ ratio (modulated X C S) ∧ ratio (modulated X C S) < (((2 : ℝ) ^ (126 : ℤ) : ℝ) : EReal) := by
  have hm : ∀ k, ∃ h : ℝ, modulated X C S k = h ∧ |h| ≤ 87 * 2 ^ 128 := fun k => by
    obtain ⟨r, hr, hr'⟩ := normal_bound X k
    obtain ⟨c, hc, hc'⟩ := hC k
    obtain ⟨s, hs, hs'⟩ := hS k
    refine ⟨r * (1 + c) + s, ?_, ?_⟩
    · unfold modulated; rw [hr, hc, hs]; push_cast; rfl
    · have h1 : |1 + c| ≤ 1 + 2 ^ 128 := (abs_add_le 1 c).trans (by rw [abs_one]; linarith)
      have h2 : |r * (1 + c)| ≤ 85 * (1 + 2 ^ 128) := by
        rw [abs_mul]; exact mul_le_mul hr' h1 (abs_nonneg _) (by norm_num)
      calc |r * (1 + c) + s| ≤ |r * (1 + c)| + |s| := abs_add_le _ _
        _ ≤ 85 * (1 + 2 ^ 128) + 2 ^ 128 := add_le_add h2 hs'
        _ ≤ 87 * 2 ^ 128 := by norm_num
  have h0 : 0 ≤ amax (modulated X C S) := by
    unfold amax
    rw [Finset.le_fold_max]
    refine Or.inr ⟨0, Finset.mem_univ _, ?_⟩
    obtain ⟨h, hh, -⟩ := hm 0
    rw [hh, abs_coe]
    exact_mod_cast abs_nonneg h
  have h1 : amax (modulated X C S) ≤ ((87 * 2 ^ 128 : ℝ) : EReal) := by
    unfold amax
    rw [Finset.fold_max_le, start_eq]
    refine ⟨bot_le, fun k _ => ?_⟩
    obtain ⟨h, hh, hb⟩ := hm k
    rw [hh, abs_coe, EReal.coe_le_coe_iff]
    exact hb
  lift amax (modulated X C S) to ℝ using ⟨(lt_of_le_of_lt h1 (EReal.coe_lt_top _)).ne, (lt_of_lt_of_le EReal.bot_lt_zero h0).ne'⟩ with a ha
  unfold ratio
  rw [← ha, inv448_eq, ← EReal.coe_mul]
  have h0' : 0 ≤ a := by exact_mod_cast h0
  have h1' : a ≤ 87 * 2 ^ 128 := EReal.coe_le_coe_iff.mp h1
  constructor
  · exact_mod_cast mul_nonneg h0' (by norm_num)
  · rw [EReal.coe_lt_coe_iff]
    calc a * (9586981 / 2 ^ 32) ≤ 87 * 2 ^ 128 * (9586981 / 2 ^ 32) := mul_le_mul_of_nonneg_right h1' (by norm_num)
      _ < 2 ^ (126 : ℤ) := by norm_num

end Cert.Rows

end
-- ==== Proof.Values.lean ====
/- The three results as functions of the arguments: codes and scales once with the exponent as the kernel finds it and once
   as the reference states it, and the product of codes and weights, scaled, shifted by the bias and gated. On finite
   modulations the two ways agree. -/
module

public import proofs.«01_k».proof.Proof.Exponent
public import proofs.«01_k».proof.Proof.Bound

@[expose] public section

noncomputable section

namespace Cert.Rows

open Idealize.ShloMosaic

/-- The shape of the activations and of their codes. -/
abbrev SAct : Shape := ⟨3, ![2, 128, 7168]⟩
/-- The shape of the shift and of the scale. -/
abbrev SMod : Shape := ⟨2, ![2, 7168]⟩
/-- The shape of the row scales. -/
abbrev SRow : Shape := ⟨3, ![2, 128, 1]⟩
/-- The shape of the gate. -/
abbrev SGate : Shape := ⟨2, ![2, 8960]⟩
/-- The shape of the weights. -/
abbrev SWt : Shape := ⟨2, ![7168, 8960]⟩
/-- The shape of the weights' column scales and of the bias. -/
abbrev SCol : Shape := ⟨1, ![8960]⟩
/-- The shape of the output. -/
abbrev SOut : Shape := ⟨3, ![2, 128, 8960]⟩

/-- All codes, the exponents as the kernel finds them. -/
def kernelCodes (A : SAct.Idx → EReal) (C S : SMod.Idx → EReal) (y : SAct.Idx) : EReal :=
  kernelCode (rowH A C S (y 0) (y 1) (y 2)) (ratio (rowH A C S (y 0) (y 1)))

/-- All row scales, the exponents as the kernel finds them. -/
def kernelScales (A : SAct.Idx → EReal) (C S : SMod.Idx → EReal) (y : SRow.Idx) : EReal :=
  kernelScale (ratio (rowH A C S (y 0) (y 1)))

/-- All codes, the exponents as the reference states them. -/
def refCodes (A : SAct.Idx → EReal) (C S : SMod.Idx → EReal) (y : SAct.Idx) : EReal :=
  refCode (rowH A C S (y 0) (y 1) (y 2)) (ratio (rowH A C S (y 0) (y 1)))

/-- All row scales, the exponents as the reference states them. -/
def refScales (A : SAct.Idx → EReal) (C S : SMod.Idx → EReal) (y : SRow.Idx) : EReal :=
  refScale (ratio (rowH A C S (y 0) (y 1)))

/-- The output from codes `Q`, row scales `H`, gate `g`, weights `w`, column scales `ws` and bias `bi`. -/
def linear (Q : SAct.Idx → EReal) (H : SRow.Idx → EReal) (g : SGate.Idx → EReal) (w : SWt.Idx → EReal) (ws bi : SCol.Idx → EReal)
    (y : SOut.Idx) : EReal :=
  ((∑ k : Fin 7168, Q (ix3 (y 0) (y 1) k) * w (ix2 k (y 2))) * H (ix3 (y 0) (y 1) 0) * ws (ix1 (y 2)) + bi (ix1 (y 2))) * g (ix2 (y 0) (y 2))

/-- A modulation's entries are numbers no larger than two to the 128th in size. -/
def Bounded (C : SMod.Idx → EReal) : Prop := ∀ i, ∃ c : ℝ, C i = c ∧ |c| ≤ (2 : ℝ) ^ (128 : ℤ)

/-- On a bounded modulation the kernel's codes are the reference's. -/
theorem kernelCodes_eq (A : SAct.Idx → EReal) (C S : SMod.Idx → EReal) (hC : Bounded C) (hS : Bounded S) :
    kernelCodes A C S = refCodes A C S := by
  funext y
  obtain ⟨h0, h1⟩ := ratio_bound (fun k => A (ix3 (y 0) (y 1) k)) (fun k => C (ix2 (y 0) k)) (fun k => S (ix2 (y 0) k)) (fun k => hC _) fun k => hS _
  exact codes_eq _ _ h0 h1

/-- On a bounded modulation the kernel's row scales are the reference's. -/
theorem kernelScales_eq (A : SAct.Idx → EReal) (C S : SMod.Idx → EReal) (hC : Bounded C) (hS : Bounded S) :
    kernelScales A C S = refScales A C S := by
  funext y
  obtain ⟨h0, h1⟩ := ratio_bound (fun k => A (ix3 (y 0) (y 1) k)) (fun k => C (ix2 (y 0) k)) (fun k => S (ix2 (y 0) k)) (fun k => hC _) fun k => hS _
  exact (scales_eq _ h0 h1).1

end Cert.Rows

end
-- ==== Proof.Arrays.lean ====
/- What the kernel's result arrays hold after the run, as functions of the arguments. -/
module

public import proofs.«01_k».proof.Proof.Product
public import proofs.«01_k».proof.Proof.Values

@[expose] public section

set_option maxRecDepth 16384

noncomputable section

namespace Cert.KernelIdeal.Hand

open Cert.KernelIdeal Cert.KernelIdeal.Gen Cert.Rows
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window's block lies at each point. -/
theorem idx : ∀ t : Fin cfg0.N, win0_0.index t = ![0, 0, 0] ∧ win0_1.index t = ![0, 0] ∧ win0_2.index t = ![0, 0] ∧
    win0_3.index t = ![0, t.val] ∧ win0_4.index t = ![0, t.val] ∧ win0_5.index t = ![0, t.val] ∧ win0_6.index t = ![0, t.val] ∧
    win0_7.index t = ![0, 0, t.val] ∧ win0_8.index t = ![0, 0, 0] ∧ win0_9.index t = ![0, 0, 0] :=
  (by decide +kernel : ∀ t : Fin grid0.N, _)

/-- The activations are one block. -/
theorem blk0 (c : Dev nD) (t) : iblk m c 0 t = m ((c : Thread nD τ).loc main_arg0) := by blk_ext! [iblk, V, idx t]
/-- The shift is one block. -/
theorem blk1 (c : Dev nD) (t) : iblk m c 1 t = m ((c : Thread nD τ).loc main_arg1) := by blk_ext! [iblk, V, idx t]
/-- The scale is one block. -/
theorem blk2 (c : Dev nD) (t) : iblk m c 2 t = m ((c : Thread nD τ).loc main_arg2) := by blk_ext! [iblk, V, idx t]

/-- The codes the kernel leaves, from the arguments. -/
theorem CODES_eq (c : Dev nD) : CODES m c = kernelCodes (m ((c : Thread nD τ).loc main_arg0)) (m ((c : Thread nD τ).loc main_arg2)) (m ((c : Thread nD τ).loc main_arg1)) := by
  funext y
  rw [CODES_at]
  unfold rowT kernelCodes
  rw [blk0, blk1, blk2]

/-- The row scales the kernel leaves, from the arguments. -/
theorem HS_eq (c : Dev nD) : HS m c = kernelScales (m ((c : Thread nD τ).loc main_arg0)) (m ((c : Thread nD τ).loc main_arg2)) (m ((c : Thread nD τ).loc main_arg1)) := by
  funext y
  rw [HS_at]
  unfold rowT kernelScales
  rw [blk0, blk1, blk2]

/-- The second result's array after the run. -/
theorem final8 (c : Dev nD) : (dats m 0 c).arrAt 8 cfg0.N = CODES m c := by
  refine (dats m 0 c).arrAt_eq_of_covers 8 _ (by decide +kernel) fun t _ y => ?_
  blk_simp
  rw [after0_8]
  refine congrArg (CODES m c) ?_
  blk_ext [idx t]

/-- The third result's array after the run. -/
theorem final9 (c : Dev nD) : (dats m 0 c).arrAt 9 cfg0.N = HS m c := by
  refine (dats m 0 c).arrAt_eq_of_covers 9 _ (by decide +kernel) fun t _ y => ?_
  blk_simp
  rw [after0_9]
  refine congrArg (HS m c) ?_
  blk_ext [idx t]

/-- A point's block of the output is the output at the entries the block's entries lie at. -/
theorem block_linear (Q : Vec Ideal S2x128x7168 .fp8e4m3) (H : Vec Ideal S2x128x1 .f32) (g : SGate.Idx → EReal) (w : SWt.Idx → EReal) (ws bi : SCol.Idx → EReal)
    (w' : Vec Ideal S7168x1280 .fp8e4m3) (ws' : Vec Ideal S1x1280 .f32) (bi' : Vec Ideal S1x1280 .bf16) (g' : Vec Ideal S2x1280 .bf16)
    (b : Fin 2) (r : Fin 128) (j : Fin 1280) (y : SOut.Idx) (h0 : (y 0 : ℕ) = b) (h1 : (y 1 : ℕ) = r)
    (hw : ∀ k : Fin 7168, w' (ix2 k j) = w (ix2 k (y 2))) (hws : ws' (ix2 0 j) = ws (ix1 (y 2))) (hbi : bi' (ix2 0 j) = bi (ix1 (y 2)))
    (hg : g' (ix2 b j) = g (ix2 b (y 2))) :
    block Q w' H ws' bi' g' b r j = linear Q H g w ws bi y := by
  obtain rfl : y 0 = b := Fin.ext h0
  obtain rfl : y 1 = r := Fin.ext h1
  unfold block linear
  rw [hws, hbi, hg, Finset.sum_congr rfl fun k _ => by rw [hw k]]

/-- The first result's array after the run. -/
theorem final7 (c : Dev nD) : (dats m 0 c).arrAt 7 cfg0.N = linear (CODES m c) (HS m c) (m ((c : Thread nD τ).loc main_arg3))
    (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  refine (Y_at m c t y).trans (block_linear _ _ _ _ _ _ _ _ _ _ _ _ _ _ ?_ ?_ (fun k => ?_) ?_ ?_ ?_)
  · blk_simp [idx t]
  · blk_simp [idx t]
  · blk_ext [iblk, V, idx t]
  · blk_simp [iblk]
    entry_read
    pointwise
    blk_ext [idx t]
  · blk_simp [iblk]
    entry_read
    pointwise
    blk_ext [idx t]
  · blk_ext [iblk, V, idx t]

end Cert.KernelIdeal.Hand

end
-- ==== Proof.Results.lean ====
/- The kernel's run over the extended reals: its three results as functions of the arguments, the arguments unchanged. -/
module

public import proofs.«01_k».proof.Proof.Arrays

@[expose] public section

set_option maxRecDepth 16384

noncomputable section

namespace Cert.KernelIdeal.Hand

open Cert.KernelIdeal Cert.KernelIdeal.Gen Cert.Rows
open Idealize.ShloMosaic Idealize.ShloMosaic.TcCoe Idealize.SL.Sem

variable (m : (ℓ : Loc nD τ sig) → Buf (Elt Ideal) ℓ) (ρ : Dev nD → PrngReg)

/-- What the kernel leaves: its codes, its row scales, the output computed from both, and its arguments as they were. -/
theorem results : θ_run defs (onTc (τ := τ) (main (F := Ideal))) ⟨m, fun _ => 0, ρ⟩ fun r => ∀ c : Dev nD,
      r.2.mem ((c : Thread nD τ).loc main_v2_0) = linear (kernelCodes (m ((c : Thread nD τ).loc main_arg0)) (m ((c : Thread nD τ).loc main_arg2)) (m ((c : Thread nD τ).loc main_arg1))) (kernelScales (m ((c : Thread nD τ).loc main_arg0)) (m ((c : Thread nD τ).loc main_arg2)) (m ((c : Thread nD τ).loc main_arg1)))
        (m ((c : Thread nD τ).loc main_arg3)) (m ((c : Thread nD τ).loc main_arg4)) (m ((c : Thread nD τ).loc main_arg5)) (m ((c : Thread nD τ).loc main_arg6))
      ∧ r.2.mem ((c : Thread nD τ).loc main_v2_1) = kernelCodes (m ((c : Thread nD τ).loc main_arg0)) (m ((c : Thread nD τ).loc main_arg2)) (m ((c : Thread nD τ).loc main_arg1))
      ∧ r.2.mem ((c : Thread nD τ).loc main_v2_2) = kernelScales (m ((c : Thread nD τ).loc main_arg0)) (m ((c : Thread nD τ).loc main_arg2)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (run_main m ρ)
  rw [← CODES_eq m c, ← HS_eq m c]
  exact ⟨((h c).1 7).trans (final7 m c), ((h c).1 8).trans (final8 m c), ((h c).1 9).trans (final9 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

end Cert.KernelIdeal.Hand

end
-- ==== Proof.ReferenceRows.lean ====
/- What the reference computes row by row: the modulated activations, their ratios and the exponents of their scales. -/
module

public import proofs.«01_k».proof.Proof.Values
public import proofs.«01_k».proof.Proof.Gen.ReferenceIdeal.Value

@[expose] public section

set_option maxRecDepth 16384

noncomputable section

namespace Cert.ReferenceIdeal.Hand

open Cert.ReferenceIdeal Cert.ReferenceIdeal.Gen Cert.Rows
open Idealize.ShloMosaic Idealize.ShloMosaic.TcCoe Idealize.SL.Sem

section
variable (A : Vec Ideal S2x128x7168 .bf16) (C S : Vec Ideal S2x7168 .bf16)

/-- The exponents of all rows' scales. -/
def RE : Vec Ideal S2x128x1 .f32 := k0_pay5 (F := Ideal) (k0_pay3 A C S) (k0_pay4 A C S) (Scalar.ofBits .f32 0x3F800000#32)

/-- The modulated activations are the rows modulated. -/
theorem modulated_at (b : Fin 2) (r : Fin 128) (k : Fin 7168) : k0_pay1 (F := Ideal) A C S (ix3 b r k) = rowH A C S b r k := by
  pointwise [k0_pay1]
  rfl

/-- The ratio of a row. -/
theorem ratio_at (b : Fin 2) (r : Fin 128) : k0_pay2 (F := Ideal) A C S (ix3 b r 0) = ratio (rowH A C S b r) := by
  pointwise [k0_pay2]
  simp only [modulated_at]
  rfl

/-- The exponent of a row's scale. -/
theorem exponent_at (b : Fin 2) (r : Fin 128) : RE A C S (ix3 b r 0) = refExponent (ratio (rowH A C S b r)) := by
  unfold RE refExponent
  pointwise [k0_pay5, k0_pay3, k0_pay4]
  simp only [ratio_at]

end

end Cert.ReferenceIdeal.Hand

end
-- ==== Proof.Reference.lean ====
/- The reference's three results, as functions of the arguments. -/
module

public import proofs.«01_k».proof.Proof.ReferenceRows

@[expose] public section

set_option maxRecDepth 16384

noncomputable section

namespace Cert.ReferenceIdeal.Hand

open Cert.ReferenceIdeal Cert.ReferenceIdeal.Gen Cert.Rows
open Idealize.ShloMosaic Idealize.ShloMosaic.TcCoe Idealize.SL.Sem

section
variable (A : Vec Ideal S2x128x7168 .bf16) (C S : Vec Ideal S2x7168 .bf16)

/-- All codes. -/
def RC : Vec Ideal S2x128x7168 .fp8e4m3 :=
  k0_pay7 (F := Ideal) (k0_pay1 A C S) (k0_pay3 A C S) (k0_pay4 A C S) (Scalar.ofBits .f32 0x3F800000#32)

/-- All row scales. -/
def RS : Vec Ideal S2x128x1 .f32 := k0_pay8 (F := Ideal) (k0_pay3 A C S) (k0_pay4 A C S) (Scalar.ofBits .f32 0x3F800000#32)

/-- A code from an entry and the exponent of its row's scale. -/
theorem code_at (Hm : FVec Ideal S2x128x7168 .f32) (p : IVec S2x128x1 1) (e : FVec Ideal S2x128x1 .f32) (o : Ideal .f32) (b : Fin 2) (r : Fin 128) (k : Fin 7168) :
    k0_pay7 (F := Ideal) Hm p e o (ix3 b r k) = min (Ideal.ofBits .f32 0x43E00000#32) (max (Ideal.ofBits .f32 0xC3E00000#32)
      (Hm (ix3 b r k) * Ideal.pow (Ideal.ofBits .f32 0x40000000#32) (0 - k0_pay5 (F := Ideal) p e o (ix3 b r 0)))) := by
  pointwise [k0_pay7, k0_pay6]

/-- A row's scale from its exponent. -/
theorem scale_at (p : IVec S2x128x1 1) (e : FVec Ideal S2x128x1 .f32) (o : Ideal .f32) (b : Fin 2) (r : Fin 128) :
    k0_pay8 (F := Ideal) p e o (ix3 b r 0) = Ideal.pow (Ideal.ofBits .f32 0x40000000#32) (k0_pay5 (F := Ideal) p e o (ix3 b r 0)) := by
  pointwise [k0_pay8, k0_pay6]

/-- The output from the codes and the scales. -/
theorem out_at (Hm : FVec Ideal S2x128x7168 .f32) (p : IVec S2x128x1 1) (e : FVec Ideal S2x128x1 .f32) (o : Ideal .f32)
    (w : Vec Ideal S7168x8960 .fp8e4m3) (ws : Vec Ideal S8960 .f32) (bi : Vec Ideal S8960 .bf16) (g : Vec Ideal S2x8960 .bf16)
    (b : Fin 2) (r : Fin 128) (j : Fin 8960) :
    k0_pay9 (F := Ideal) Hm p e o w ws bi g (ix3 b r j) =
      ((∑ k : Fin 7168, k0_pay7 (F := Ideal) Hm p e o (ix3 b r k) * w (ix2 k j)) * k0_pay8 (F := Ideal) p e o (ix3 b r 0) * ws (ix1 j) + bi (ix1 j)) * g (ix2 b j) := by
  pointwise [k0_pay9]

/-- The codes are the reference's codes of the rows. -/
theorem RC_eq : RC A C S = refCodes A C S := by
  funext y
  idx_vars y
  refine (code_at _ _ _ _ _ _ _).trans ?_
  have h := exponent_at A C S y0 y1
  unfold RE at h
  rw [h, modulated_at]
  rfl

/-- The row scales are the reference's scales of the rows. -/
theorem RS_eq : RS A C S = refScales A C S := by
  funext y
  idx_vars y
  obtain rfl : y2 = 0 := Subsingleton.elim _ _
  refine (scale_at _ _ _ _ _).trans ?_
  have h := exponent_at A C S y0 y1
  unfold RE at h
  rw [h]
  rfl

end

variable (a0 : Vec Ideal S2x128x7168 .bf16) (a1 a2 : Vec Ideal S2x7168 .bf16) (a3 : Vec Ideal S2x8960 .bf16) (a4 : Vec Ideal S7168x8960 .fp8e4m3)
  (a5 : Vec Ideal S8960 .f32) (a6 : Vec Ideal S8960 .bf16)

/-- Reading the whole activations reads them. -/
theorem whole0 : View.ld a0 r0_0 = a0 := by
  funext y
  rw [View.ld_apply]
  refine congrArg a0 (funext fun a => Fin.ext ?_)
  match a with
  | ⟨0, _⟩ => exact (Rect.idx_unit_val _ _ _ _ _).trans (Nat.zero_add _)
  | ⟨1, _⟩ => exact (Rect.idx_unit_val _ _ _ _ _).trans (Nat.zero_add _)
  | ⟨2, _⟩ => exact (Rect.idx_unit_val _ _ _ _ _).trans (Nat.zero_add _)

/-- Reading a whole modulation reads it. -/
theorem whole1 : View.ld a1 r0_1 = a1 := by
  funext y
  rw [View.ld_apply]
  refine congrArg a1 (funext fun a => Fin.ext ?_)
  match a with
  | ⟨0, _⟩ => exact (Rect.idx_unit_val _ _ _ _ _).trans (Nat.zero_add _)
  | ⟨1, _⟩ => exact (Rect.idx_unit_val _ _ _ _ _).trans (Nat.zero_add _)

/-- The second result is the reference's codes. -/
theorem G8_eq : Value.G8 (F := Ideal) a0 a1 a2 a3 a4 a5 a6 = refCodes a0 a2 a1 := by
  unfold Value.G8 k0_pay10 k0_pay11 k0_pay12
  rw [whole0, whole1, whole1]
  exact RC_eq a0 a2 a1

/-- The third result is the reference's row scales. -/
theorem G9_eq : Value.G9 (F := Ideal) a0 a1 a2 a3 a4 a5 a6 = refScales a0 a2 a1 := by
  unfold Value.G9 k0_pay11 k0_pay12
  rw [whole0, whole1, whole1]
  exact RS_eq a0 a2 a1

/-- The first result is the output computed from the reference's codes and row scales. -/
theorem G7_eq : Value.G7 (F := Ideal) a0 a1 a2 a3 a4 a5 a6 = linear (refCodes a0 a2 a1) (refScales a0 a2 a1) a3 a4 a5 a6 := by
  rw [← G8_eq a0 a1 a2 a3 a4 a5 a6, ← G9_eq a0 a1 a2 a3 a4 a5 a6]
  funext y
  idx_vars y
  exact out_at _ _ _ _ _ _ _ _ _ _ _

end Cert.ReferenceIdeal.Hand

end
-- ==== Proof.Precondition.lean ====
/- What the precondition says of the shift and of the scale: each is a real number, at most two to the 128th in size. -/
module

public import proofs.«01_k».proof.Proof.Values
public import proofs.«01_k».proof.Pre_finite_modulation

@[expose] public section

noncomputable section

namespace Cert.Pre_finite_modulation.Hand

open Cert.Pre_finite_modulation Cert.Rows
open Idealize.ShloMosaic

/-- The side conditions the precondition's operations take. -/
instance facts : Facts where
  bitsLt_bf16_f32 := by decide
  bcast_S_S2x7168 := by decide
  reducesTo_S2x7168_S_d0_1 := by decide
  h_S_ := by decide

/-- The conjunction of two bits is one only if both are. -/
theorem and_bits : ∀ a b : BitVec 1, IntOp.andi a b = 1#1 → a = 1#1 ∧ b = 1#1 := by decide

/-- The conjunction of a list of bits is one only if all are. -/
theorem foldl_and {ι : Type} (x : ι → BitVec 1) (l : List ι) (a : BitVec 1) (h : l.foldl (fun r i => IntOp.andi r (x i)) a = 1#1) :
    a = 1#1 ∧ ∀ i ∈ l, x i = 1#1 := by
  induction l generalizing a with
  | nil => exact ⟨h, fun i hi => absurd hi List.not_mem_nil⟩
  | cons b l ih =>
    obtain ⟨h1, h2⟩ := ih _ h
    obtain ⟨h3, h4⟩ := and_bits _ _ h1
    refine ⟨h3, fun i hi => ?_⟩
    rcases List.mem_cons.mp hi with rfl | hi
    · exact h4
    · exact h2 i hi

/-- The conjunction of an array of bits is one only if all are. -/
theorem reduce_and (x : IVec S2x7168 1) (v : IVec S_ 1) (h : S2x7168.ReducesTo [0, 1] S_) (h0 : 0 < S_.numel) (j : S_.Idx)
    (hr : Host.reduce IntOp.andi x v h h0 j = 1#1) (i : S2x7168.Idx) : x i = 1#1 := by
  rw [Host.reduce_eq_foldl] at hr
  refine (foldl_and x _ _ hr).2 i (List.mem_filter.mpr ⟨List.mem_map.mpr ⟨S2x7168.rowMajor i, List.mem_finRange _, Equiv.symm_apply_apply _ _⟩, ?_⟩)
  exact decide_eq_true (funext fun a => a.elim0)

/-- A number whose size is at most the largest finite number of the format is real, and at most two to the 128th in size. -/
theorem real_of_le (a : EReal) (h : max a (-a) ≤ Ideal.ofBits .f32 0x7F7F0000#32) : ∃ c : ℝ, a = c ∧ |c| ≤ (2 : ℝ) ^ (128 : ℤ) := by
  rw [ofBits_fields 0x7F7F0000#32 254 0x7F0000 (by decide) (by decide) (by decide) (by omega) (by omega)] at h
  induction a with
  | bot => exact absurd (le_trans (le_max_right _ _) h) (not_le.mpr (EReal.coe_lt_top _))
  | top => exact absurd (le_trans (le_max_left _ _) h) (not_le.mpr (EReal.coe_lt_top _))
  | coe c =>
    refine ⟨c, rfl, ?_⟩
    rw [abs_coe, EReal.coe_le_coe_iff] at h
    refine h.trans ?_
    rw [show ((254 : ℕ) : ℤ) - 150 = 104 by norm_num]
    norm_num

/-- A modulation every entry of which passes the comparison is bounded. -/
theorem bounded_of_cmp (X : Vec Ideal S2x7168 .bf16)
    (h : ∀ i, cmpf .ole (Host.absf (extf .f32 X Facts.bitsLt_bf16_f32)) (broadcastInDim S2x7168 ![] Facts.bcast_S_S2x7168 (constant (F := Ideal) S_ .f32 0x7F7F0000#32)) i = 1#1) :
    Bounded X := by
  intro i
  refine real_of_le (X i) ?_
  by_contra hn
  have hi : (BitVec.ofBool (decide (max (X i) (-(X i)) ≤ Ideal.ofBits .f32 0x7F7F0000#32)) : BitVec 1) = 1#1 := h i
  rw [decide_eq_false hn] at hi
  exact absurd hi (by decide)

/-- Where the precondition holds, the shift and the scale are bounded. -/
theorem bounded (a0 : Vec Ideal S2x128x7168 .bf16) (a1 a2 : Vec Ideal S2x7168 .bf16) (a3 : Vec Ideal S2x8960 .bf16) (a4 : Vec Ideal S7168x8960 .fp8e4m3)
    (a5 : Vec Ideal S8960 .f32) (a6 : Vec Ideal S8960 .bf16) (h : fn (F := Ideal) a0 a1 a2 a3 a4 a5 a6 = fun _ => 1#1) : Bounded a1 ∧ Bounded a2 := by
  have h0 := congrFun h (fun a => a.elim0)
  obtain ⟨h1, h2⟩ := and_bits _ _ h0
  exact ⟨bounded_of_cmp a1 (reduce_and _ _ _ _ _ h1), bounded_of_cmp a2 (reduce_and _ _ _ _ _ h2)⟩

end Cert.Pre_finite_modulation.Hand

end
-- ==== Proof.KernelFrame.lean ====
/- The frame of the kernel at bits. The kernel's text at bits and its text at the extended reals are the same
   program under two names, and the frame of the second is proved for floats of any kind, so it is read here at
   bits. -/
module

public import proofs.«01_k».proof.Defs
public import proofs.«01_k».proof.Proof.Body
public import proofs.«01_k».proof.Proof.Gen.Kernel

@[expose] public section

set_option maxRecDepth 65536

namespace Cert.Kernel.Hand

open Idealize.ShloMosaic Idealize.ShloMosaic.TcCoe Idealize.SL.Sem

/-- The two bodies are one program. -/
theorem body_eq : @Cert.Kernel.cc0_adaln_fp8_linear Bits _ Cert.Kernel.Gen.facts
    = @Cert.KernelIdeal.cc0_adaln_fp8_linear Bits _ Cert.KernelIdeal.Gen.facts := rfl

/-- The two tables of bodies are one. -/
theorem bodies_eq : @Cert.Kernel.defs₀ Bits _ Cert.Kernel.Gen.facts
    = @Cert.KernelIdeal.defs₀ Bits _ Cert.KernelIdeal.Gen.facts := by
  refine congrArg Defs.onTc ?_
  funext l a
  match l, a with
  | 0, (t, s) => rfl
  | ⟨_ + 1, h⟩, _ => exact absurd h (Nat.not_lt.2 (Nat.le_add_left _ _))

/-- The two tables of calls are one. -/
theorem defs_eq : @Cert.Kernel.defs Bits _ Cert.Kernel.Gen.facts
    = @Cert.KernelIdeal.defs Bits _ Cert.KernelIdeal.Gen.facts :=
  congrArg (Pipeline.defs Cert.KernelIdeal.pcfgs) bodies_eq

/-- The two host programs are one. -/
theorem main_eq : @Cert.Kernel.main Bits Cert.Kernel.Gen.facts
    = @Cert.KernelIdeal.main Bits Cert.KernelIdeal.Gen.facts := rfl

/-- The kernel at bits runs to its end, its arguments as they were. -/
theorem frame : Cert.quiescent_Kernel (hKernel := Cert.Kernel.Gen.facts) := by
  intro m ρ _
  have key : ∀ D M, D = @Cert.KernelIdeal.defs Bits _ Cert.KernelIdeal.Gen.facts
      → M = @Cert.KernelIdeal.main Bits Cert.KernelIdeal.Gen.facts
      → θ_run D (onTc M) ⟨m, fun _ => 0, ρ⟩ _ :=
    fun _ _ hD hM => by subst hD hM; exact Cert.KernelIdeal.Hand.frame (F := Bits) m ρ
  exact key _ _ defs_eq main_eq

end Cert.Kernel.Hand
-- ==== Proof.lean ====
module

public import proofs.«01_k».proof.Defs
public import proofs.«01_k».proof.Proof.Results
public import proofs.«01_k».proof.Proof.Reference
public import proofs.«01_k».proof.Proof.Precondition
public import proofs.«01_k».proof.Proof.KernelFrame

@[expose] public section

set_option maxRecDepth 16384

namespace Cert.Proof

open Idealize.ShloMosaic Idealize.ShloMosaic.TcCoe Idealize.SL.Sem Cert.Rows

/-- With finite shifts and scales the kernel's three results are the reference's. -/
theorem algebraic : Cert.algebraic_KernelIdeal_ReferenceIdeal_pre_finite_modulation := by
  intro m g m' g' hpre hagree
  refine ⟨_, _, _, Cert.KernelIdeal.Hand.results m g, (θ_run _ _ _).mono (fun r h c => ?_) (Cert.ReferenceIdeal.Value.run m' g')⟩
  obtain ⟨h7, h8, h9, kept⟩ := h c
  obtain ⟨e0, e1, e2, e3, e4, e5, e6⟩ := hagree c
  obtain ⟨hS, hC⟩ := Cert.Pre_finite_modulation.Hand.bounded _ _ _ _ _ _ _ (hpre c)
  rw [e0, e1, e2, e3, e4, e5, e6] at h7 h8 h9
  refine ⟨h7.trans ?_, h8.trans ?_, h9.trans ?_, kept⟩
  · refine (Cert.ReferenceIdeal.Hand.G7_eq _ _ _ _ _ _ _).trans ?_
    rw [kernelCodes_eq _ _ _ hC hS, kernelScales_eq _ _ _ hC hS]
  · exact (Cert.ReferenceIdeal.Hand.G8_eq _ _ _ _ _ _ _).trans (kernelCodes_eq _ _ _ hC hS).symm
  · exact (Cert.ReferenceIdeal.Hand.G9_eq _ _ _ _ _ _ _).trans (kernelScales_eq _ _ _ hC hS).symm

/-- All the claims. -/
theorem claim : Cert.Claim :=
  ⟨Cert.Kernel.Gen.facts, Cert.KernelIdeal.Gen.facts, Cert.ReferenceIdeal.Gen.facts, Cert.Pre_finite_modulation.Hand.facts,
    Cert.Kernel.Hand.frame, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ, trivial, algebraic⟩

end Cert.Proof
